-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x192x64x64 : Shape := ⟨4, ![8, 192, 64, 64]⟩
abbrev S192x192x3x3 : Shape := ⟨4, ![192, 192, 3, 3]⟩
abbrev S192 : Shape := ⟨1, ![192]⟩
abbrev S9x192x1x1 : Shape := ⟨4, ![9, 192, 1, 1]⟩
abbrev S9 : Shape := ⟨1, ![9]⟩
abbrev S36x192x1x1 : Shape := ⟨4, ![36, 192, 1, 1]⟩
abbrev S36 : Shape := ⟨1, ![36]⟩
abbrev S8x64x64x192 : Shape := ⟨4, ![8, 64, 64, 192]⟩
abbrev S8x4096x192 : Shape := ⟨3, ![8, 4096, 192]⟩
abbrev S3x3x192x192 : Shape := ⟨4, ![3, 3, 192, 192]⟩
abbrev S192x1 : Shape := ⟨2, ![192, 1]⟩
abbrev S9x192 : Shape := ⟨2, ![9, 192]⟩
abbrev S36x192 : Shape := ⟨2, ![36, 192]⟩
abbrev S9x1 : Shape := ⟨2, ![9, 1]⟩
abbrev S36x1 : Shape := ⟨2, ![36, 1]⟩
abbrev S8x9x64x64 : Shape := ⟨4, ![8, 9, 64, 64]⟩
abbrev S8x36x64x64 : Shape := ⟨4, ![8, 36, 64, 64]⟩
abbrev S1x4096x192 : Shape := ⟨3, ![1, 4096, 192]⟩
abbrev S1x9x64x64 : Shape := ⟨4, ![1, 9, 64, 64]⟩
abbrev S1x36x64x64 : Shape := ⟨4, ![1, 36, 64, 64]⟩
abbrev S4224x768 : Shape := ⟨2, ![4224, 768]⟩
abbrev S192x2304 : Shape := ⟨2, ![192, 2304]⟩
abbrev S4096x192 : Shape := ⟨2, ![4096, 192]⟩
abbrev S1x1x192x192 : Shape := ⟨4, ![1, 1, 192, 192]⟩
abbrev S192x192 : Shape := ⟨2, ![192, 192]⟩
abbrev S4096x1 : Shape := ⟨2, ![4096, 1]⟩
abbrev S1x192 : Shape := ⟨2, ![1, 192]⟩
abbrev S4095x192 : Shape := ⟨2, ![4095, 192]⟩
abbrev S192x768 : Shape := ⟨2, ![192, 768]⟩
abbrev S4096x768 : Shape := ⟨2, ![4096, 768]⟩
abbrev S192x4096 : Shape := ⟨2, ![192, 4096]⟩
abbrev S9x4096 : Shape := ⟨2, ![9, 4096]⟩
abbrev S36x4096 : Shape := ⟨2, ![36, 4096]⟩
abbrev S9x64x64 : Shape := ⟨3, ![9, 64, 64]⟩
abbrev S36x64x64 : Shape := ⟨3, ![36, 64, 64]⟩

abbrev nBuf : Space → Nat
  | .hbm => 17
  | .vmem => 14
  | .smem => 0
  | _ => 0

abbrev bufTy : (tb : Table) → Fin (tcTables nBuf tb) → BufTy
  | .hbm, ⟨0, _⟩ => ⟨S8x192x64x64, .f32⟩
  | .hbm, ⟨1, _⟩ => ⟨S192x192x3x3, .f32⟩
  | .hbm, ⟨2, _⟩ => ⟨S192, .f32⟩
  | .hbm, ⟨3, _⟩ => ⟨S9x192x1x1, .f32⟩
  | .hbm, ⟨4, _⟩ => ⟨S9, .f32⟩
  | .hbm, ⟨5, _⟩ => ⟨S36x192x1x1, .f32⟩
  | .hbm, ⟨6, _⟩ => ⟨S36, .f32⟩
  | .hbm, ⟨7, _⟩ => ⟨S8x64x64x192, .f32⟩
  | .hbm, ⟨8, _⟩ => ⟨S8x4096x192, .f32⟩
  | .hbm, ⟨9, _⟩ => ⟨S3x3x192x192, .f32⟩
  | .hbm, ⟨10, _⟩ => ⟨S192x1, .f32⟩
  | .hbm, ⟨11, _⟩ => ⟨S9x192, .f32⟩
  | .hbm, ⟨12, _⟩ => ⟨S36x192, .f32⟩
  | .hbm, ⟨13, _⟩ => ⟨S9x1, .f32⟩
  | .hbm, ⟨14, _⟩ => ⟨S36x1, .f32⟩
  | .hbm, ⟨15, _⟩ => ⟨S8x9x64x64, .f32⟩
  | .hbm, ⟨16, _⟩ => ⟨S8x36x64x64, .f32⟩
  | .local _ .vmem, ⟨0, _⟩ => ⟨S1x4096x192, .f32⟩
  | .local _ .vmem, ⟨1, _⟩ => ⟨S1x4096x192, .f32⟩
  | .local _ .vmem, ⟨2, _⟩ => ⟨S3x3x192x192, .f32⟩
  | .local _ .vmem, ⟨3, _⟩ => ⟨S192x1, .f32⟩
  | .local _ .vmem, ⟨4, _⟩ => ⟨S9x192, .f32⟩
  | .local _ .vmem, ⟨5, _⟩ => ⟨S36x192, .f32⟩
  | .local _ .vmem, ⟨6, _⟩ => ⟨S9x1, .f32⟩
  | .local _ .vmem, ⟨7, _⟩ => ⟨S36x1, .f32⟩
  | .local _ .vmem, ⟨8, _⟩ => ⟨S1x9x64x64, .f32⟩
  | .local _ .vmem, ⟨9, _⟩ => ⟨S1x9x64x64, .f32⟩
  | .local _ .vmem, ⟨10, _⟩ => ⟨S1x36x64x64, .f32⟩
  | .local _ .vmem, ⟨11, _⟩ => ⟨S1x36x64x64, .f32⟩
  | .local _ .vmem, ⟨12, _⟩ => ⟨S4224x768, .bf16⟩
  | .local _ .vmem, ⟨13, _⟩ => ⟨S192x2304, .bf16⟩
  | _, _ => ⟨S8x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S36x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x9x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x36x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x192x64x64 : Shape := ⟨4, ![8, 192, 64, 64]⟩
abbrev S192x192x3x3 : Shape := ⟨4, ![192, 192, 3, 3]⟩
abbrev S192 : Shape := ⟨1, ![192]⟩
abbrev S9x192x1x1 : Shape := ⟨4, ![9, 192, 1, 1]⟩
abbrev S9 : Shape := ⟨1, ![9]⟩
abbrev S36x192x1x1 : Shape := ⟨4, ![36, 192, 1, 1]⟩
abbrev S36 : Shape := ⟨1, ![36]⟩
abbrev S_ : Shape := ⟨0, ![]⟩
abbrev S8x192x66x66 : Shape := ⟨4, ![8, 192, 66, 66]⟩
abbrev S192x192x1x1 : Shape := ⟨4, ![192, 192, 1, 1]⟩
abbrev S192x192 : Shape := ⟨2, ![192, 192]⟩
abbrev S192x8x64x64 : Shape := ⟨4, ![192, 8, 64, 64]⟩
abbrev S1x192x1x1 : Shape := ⟨4, ![1, 192, 1, 1]⟩
abbrev S9x192 : Shape := ⟨2, ![9, 192]⟩
abbrev S9x8x64x64 : Shape := ⟨4, ![9, 8, 64, 64]⟩
abbrev S8x9x64x64 : Shape := ⟨4, ![8, 9, 64, 64]⟩
abbrev S1x9x1x1 : Shape := ⟨4, ![1, 9, 1, 1]⟩
abbrev S36x192 : Shape := ⟨2, ![36, 192]⟩
abbrev S36x8x64x64 : Shape := ⟨4, ![36, 8, 64, 64]⟩
abbrev S8x36x64x64 : Shape := ⟨4, ![8, 36, 64, 64]⟩
abbrev S1x36x1x1 : Shape := ⟨4, ![1, 36, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S8x192x64x64, .f32⟩
  | .hbm, ⟨1, _⟩ => ⟨S192x192x3x3, .f32⟩
  | .hbm, ⟨2, _⟩ => ⟨S192, .f32⟩
  | .hbm, ⟨3, _⟩ => ⟨S9x192x1x1, .f32⟩
  | .hbm, ⟨4, _⟩ => ⟨S9, .f32⟩
  | .hbm, ⟨5, _⟩ => ⟨S36x192x1x1, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S8x192x66x66, .f32⟩
  | .hbm, ⟨10, _⟩ => ⟨S8x192x64x64, .f32⟩
  | .hbm, ⟨11, _⟩ => ⟨S192x192x1x1, .f32⟩
  | .hbm, ⟨12, _⟩ => ⟨S192x192, .f32⟩
  | .hbm, ⟨13, _⟩ => ⟨S192x8x64x64, .f32⟩
  | .hbm, ⟨14, _⟩ => ⟨S8x192x64x64, .f32⟩
  | .hbm, ⟨15, _⟩ => ⟨S_, .f32⟩
  | .hbm, ⟨16, _⟩ => ⟨S8x192x64x64, .f32⟩
  | .hbm, ⟨17, _⟩ => ⟨S8x192x64x64, .f32⟩
  | .hbm, ⟨18, _⟩ => ⟨S8x192x64x64, .f32⟩
  | .hbm, ⟨19, _⟩ => ⟨S192x192x1x1, .f32⟩
  | .hbm, ⟨20, _⟩ => ⟨S192x192, .f32⟩
  | .hbm, ⟨21, _⟩ => ⟨S192x8x64x64, .f32⟩
  | .hbm, ⟨22, _⟩ => ⟨S8x192x64x64, .f32⟩
  | .hbm, ⟨23, _⟩ => ⟨S8x192x64x64, .f32⟩
  | .hbm, ⟨24, _⟩ => ⟨S8x192x64x64, .f32⟩
  | .hbm, ⟨25, _⟩ => ⟨S192x192x1x1, .f32⟩
  | .hbm, ⟨26, _⟩ => ⟨S192x192, .f32⟩
  | .hbm, ⟨27, _⟩ => ⟨S192x8x64x64, .f32⟩
  | .hbm, ⟨28, _⟩ => ⟨S8x192x64x64, .f32⟩
  | .hbm, ⟨29, _⟩ => ⟨S8x192x64x64, .f32⟩
  | .hbm, ⟨30, _⟩ => ⟨S8x192x64x64, .f32⟩
  | .hbm, ⟨31, _⟩ => ⟨S192x192x1x1, .f32⟩
  | .hbm, ⟨32, _⟩ => ⟨S192x192, .f32⟩
  | .hbm, ⟨33, _⟩ => ⟨S192x8x64x64, .f32⟩
  | .hbm, ⟨34, _⟩ => ⟨S8x192x64x64, .f32⟩
  | .hbm, ⟨35, _⟩ => ⟨S8x192x64x64, .f32⟩
  | .hbm, ⟨36, _⟩ => ⟨S8x192x64x64, .f32⟩
  | .hbm, ⟨37, _⟩ => ⟨S192x192x1x1, .f32⟩
  | .hbm, ⟨38, _⟩ => ⟨S192x192, .f32⟩
  | .hbm, ⟨39, _⟩ => ⟨S192x8x64x64, .f32⟩
  | .hbm, ⟨40, _⟩ => ⟨S8x192x64x64, .f32⟩
  | .hbm, ⟨41, _⟩ => ⟨S8x192x64x64, .f32⟩
  | .hbm, ⟨42, _⟩ => ⟨S8x192x64x64, .f32⟩
  | .hbm, ⟨43, _⟩ => ⟨S192x192x1x1, .f32⟩
  | .hbm, ⟨44, _⟩ => ⟨S192x192, .f32⟩
  | .hbm, ⟨45, _⟩ => ⟨S192x8x64x64, .f32⟩
  | .hbm, ⟨46, _⟩ => ⟨S8x192x64x64, .f32⟩
  | .hbm, ⟨47, _⟩ => ⟨S8x192x64x64, .f32⟩
  | .hbm, ⟨48, _⟩ => ⟨S8x192x64x64, .f32⟩
  | .hbm, ⟨49, _⟩ => ⟨S192x192x1x1, .f32⟩
  | .hbm, ⟨50, _⟩ => ⟨S192x192, .f32⟩
  | .hbm, ⟨51, _⟩ => ⟨S192x8x64x64, .f32⟩
  | .hbm, ⟨52, _⟩ => ⟨S8x192x64x64, .f32⟩
  | .hbm, ⟨53, _⟩ => ⟨S8x192x64x64, .f32⟩
  | .hbm, ⟨54, _⟩ => ⟨S8x192x64x64, .f32⟩
  | .hbm, ⟨55, _⟩ => ⟨S192x192x1x1, .f32⟩
  | .hbm, ⟨56, _⟩ => ⟨S192x192, .f32⟩
  | .hbm, ⟨57, _⟩ => ⟨S192x8x64x64, .f32⟩
  | .hbm, ⟨58, _⟩ => ⟨S8x192x64x64, .f32⟩
  | .hbm, ⟨59, _⟩ => ⟨S8x192x64x64, .f32⟩
  | .hbm, ⟨60, _⟩ => ⟨S8x192x64x64, .f32⟩
  | .hbm, ⟨61, _⟩ => ⟨S192x192x1x1, .f32⟩
  | .hbm, ⟨62, _⟩ => ⟨S192x192, .f32⟩
  | .hbm, ⟨63, _⟩ => ⟨S192x8x64x64, .f32⟩
  | .hbm, ⟨64, _⟩ => ⟨S8x192x64x64, .f32⟩
  | .hbm, ⟨65, _⟩ => ⟨S8x192x64x64, .f32⟩
  | .hbm, ⟨66, _⟩ => ⟨S1x192x1x1, .f32⟩
  | .hbm, ⟨67, _⟩ => ⟨S8x192x64x64, .f32⟩
  | .hbm, ⟨68, _⟩ => ⟨S8x192x64x64, .f32⟩
  | .hbm, ⟨69, _⟩ => ⟨S_, .f32⟩
  | .hbm, ⟨70, _⟩ => ⟨S8x192x64x64, .f32⟩
  | .hbm, ⟨71, _⟩ => ⟨S8x192x64x64, .f32⟩
  | .hbm, ⟨72, _⟩ => ⟨S9x192, .f32⟩
  | .hbm, ⟨73, _⟩ => ⟨S9x8x64x64, .f32⟩
  | .hbm, ⟨74, _⟩ => ⟨S8x9x64x64, .f32⟩
  | .hbm, ⟨75, _⟩ => ⟨S1x9x1x1, .f32⟩
  | .hbm, ⟨76, _⟩ => ⟨S8x9x64x64, .f32⟩
  | .hbm, ⟨77, _⟩ => ⟨S8x9x64x64, .f32⟩
  | .hbm, ⟨78, _⟩ => ⟨S36x192, .f32⟩
  | .hbm, ⟨79, _⟩ => ⟨S36x8x64x64, .f32⟩
  | .hbm, ⟨80, _⟩ => ⟨S8x36x64x64, .f32⟩
  | .hbm, ⟨81, _⟩ => ⟨S1x36x1x1, .f32⟩
  | .hbm, ⟨82, _⟩ => ⟨S8x36x64x64, .f32⟩
  | .hbm, ⟨83, _⟩ => ⟨S8x36x64x64, .f32⟩
  | _, _ => ⟨S8x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩

abbrev nD : Nat := 1
abbrev τ : Topo := Topo.v7x

variable {F : FTy → Type} [FloatOps F]
-- ==== Proof.Pieces.lean ====
/- Reading back what a list of rectangular stores leaves: two facts, about one store on top of a list of earlier ones. -/
module

public import Idealize.ShloMosaic.Lib.Pipeline.Value
public import Idealize.ShloMosaic.Lib.ValueIdx

@[expose] public section

noncomputable section

namespace Cert.Rpn

open Idealize.ShloMosaic Idealize.SL.Sem Idealize.ShloMosaic.ValueIdx

variable {Val : EltTy → Type} {S : Shape} {e : EltTy}

/-- An index of `S` lies in the box of sides `size` at `off`. -/
abbrev InBox (off size : Fin S.rank → Nat) (y : S.Idx) : Prop :=
  ∀ a, off a ≤ (y a : Nat) ∧ (y a : Nat) < off a + size a

/-- The position inside the box of an index that lies in it. -/
abbrev boxPos (off size : Fin S.rank → Nat) (y : S.Idx) (h : InBox off size y) : (⟨S.rank, size⟩ : Shape).Idx :=
  fun a => ⟨(y a : Nat) - off a, by show _ < size a; have := h a; omega⟩

/-- The place of the array where a box's position `boxPos` lies is the index it was made from. -/
theorem emb_boxPos (off size : Fin S.rank → Nat) (inb : ∀ a, off a + size a ≤ S.size a) (y : S.Idx) (h : InBox off size y) :
    (Rect.unit off size inb).emb (boxPos off size y h) = y :=
  funext fun a => Fin.ext (by
    rw [Rect.emb_apply]
    show off a + 1 * ((y a : Nat) - off a) = y a
    have := h a; omega)

/-- After a list of stores whose last one fills a box, an index in the box holds that store's value and any other index
    what the earlier stores left. -/
theorem canon_box [∀ e, Nonempty (Val e)] (off size : Fin S.rank → Nat) (inb : ∀ a, off a + size a ≤ S.size a)
    (w : (⟨S.rank, size⟩ : Shape).Idx → Val e) (L : List (View.Piece Val S e)) (y : S.Idx) [Decidable (InBox off size y)] :
    View.canon ((⟨Rect.unit off size inb, w⟩ : View.Piece Val S e) :: L) y
      = if h : InBox off size y then w (boxPos off size y h) else View.canon L y := by
  by_cases h : InBox off size y
  · rw [dif_pos h]
    have e := View.canon_cons_emb (Val := Val) (Rect.unit off size inb) w L (boxPos off size y h)
    rwa [emb_boxPos] at e
  · rw [dif_neg h]
    exact View.canon_cons_of_not_mem _ _ fun hm => h ((Rect.mem_set_unit (inb := inb)).mp hm)

/-- The same for stores made over contents the buffer already had. -/
theorem read_box {sig : RefSig} {κ : Kind} {sp : Space} (v : View sig κ sp S e) (f : v.ty.Contents Val)
    (off size : Fin S.rank → Nat) (inb : ∀ a, off a + size a ≤ S.size a)
    (w : (⟨S.rank, size⟩ : Shape).Idx → Val e) (L : List (View.Piece Val S e)) (y : S.Idx) [Decidable (InBox off size y)] :
    v.read Val (v.writes Val f ((⟨Rect.unit off size inb, w⟩ : View.Piece Val S e) :: L)) y
      = if h : InBox off size y then w (boxPos off size y h) else v.read Val (v.writes Val f L) y := by
  by_cases h : InBox off size y
  · rw [dif_pos h]
    have e := View.read_writes_cons_emb (Val := Val) (v := v) (f := f) (Rect.unit off size inb) w L (boxPos off size y h)
    rwa [emb_boxPos] at e
  · rw [dif_neg h, View.writes_cons, View.read_slice_write_of_not_mem]
    rw [Rect.map_emb_univ]
    exact fun hm => h ((Rect.mem_set_unit (inb := inb)).mp hm)

/-- Membership in a box of a rank-two array, axis by axis. -/
theorem inBox_two {n0 n1 : Nat} (o0 o1 s0 s1 : Nat) (y : (⟨2, ![n0, n1]⟩ : Shape).Idx) :
    InBox (S := ⟨2, ![n0, n1]⟩) ![o0, o1] ![s0, s1] y
      ↔ (o0 ≤ (y 0 : Nat) ∧ (y 0 : Nat) < o0 + s0) ∧ (o1 ≤ (y 1 : Nat) ∧ (y 1 : Nat) < o1 + s1) := by
  constructor
  · exact fun h => ⟨h 0, h 1⟩
  · rintro ⟨h0, h1⟩ a
    match a with
    | ⟨0, _⟩ => exact h0
    | ⟨1, _⟩ => exact h1

end Cert.Rpn

end
-- ==== Proof.Spec.lean ====
/- The mathematics both programs compute, index by index over the extended reals: a 3x3 convolution over zero-padded
   features, a bias, the positive part, and two 1x1 convolutions with biases. It is stated twice, over the whole arrays
   (`head`) and over the blocks one grid point of the kernel reads (`blockHead`). -/
module

public import proofs.«01_k».proof.Proof.Pieces

@[expose] public section

noncomputable section

namespace Cert.Rpn

open Idealize.ShloMosaic Idealize.SL.Sem Idealize.ShloMosaic.ValueIdx

/-! ## Over the whole arrays -/

/-- The features with one ring of zeros around each 64x64 image: row `hp` and column `wp` count from the ring. -/
def padded (x : (⟨4, ![8, 192, 64, 64]⟩ : Shape).Idx → EReal) (b : Fin 8) (ci : Fin 192) (hp wp : ℕ) : EReal :=
  if h : (1 ≤ hp ∧ hp ≤ 64) ∧ (1 ≤ wp ∧ wp ≤ 64) then
    x (ix4 b ci ⟨hp - 1, by omega⟩ ⟨wp - 1, by omega⟩)
  else 0

/-- One of the nine taps of the 3x3 convolution at an output pixel: the sum over the input channels. -/
def tap (x : (⟨4, ![8, 192, 64, 64]⟩ : Shape).Idx → EReal) (w : (⟨4, ![192, 192, 3, 3]⟩ : Shape).Idx → EReal)
    (b : Fin 8) (o : Fin 192) (h v : Fin 64) (kh kw : Fin 3) : EReal :=
  ∑ ci : Fin 192, w (ix4 o ci kh kw) * padded x b ci (h.val + kh.val) (v.val + kw.val)

/-- The hidden features: the sum of the nine taps, the bias added, negative values replaced by zero. -/
def hidden (x : (⟨4, ![8, 192, 64, 64]⟩ : Shape).Idx → EReal) (w : (⟨4, ![192, 192, 3, 3]⟩ : Shape).Idx → EReal)
    (β : (⟨1, ![192]⟩ : Shape).Idx → EReal) (b : Fin 8) (o : Fin 192) (h v : Fin 64) : EReal :=
  max ((∑ kh : Fin 3, ∑ kw : Fin 3, tap x w b o h v kh kw) + β (ix1 o)) 0

/-- A 1x1 convolution of the hidden features to `n` channels, with its bias. -/
def head (n : ℕ) (x : (⟨4, ![8, 192, 64, 64]⟩ : Shape).Idx → EReal) (w : (⟨4, ![192, 192, 3, 3]⟩ : Shape).Idx → EReal)
    (β : (⟨1, ![192]⟩ : Shape).Idx → EReal) (u : (⟨4, ![n, 192, 1, 1]⟩ : Shape).Idx → EReal)
    (γ : (⟨1, ![n]⟩ : Shape).Idx → EReal) (b : Fin 8) (j : Fin n) (h v : Fin 64) : EReal :=
  (∑ o : Fin 192, u (ix4 j o 0 0) * hidden x w β b o h v) + γ (ix1 j)

/-! ## Over one grid point's blocks -/

/-- A pixel of the padded image of one block, whose 4096 rows are the image's pixels row after row. -/
def pixel (x : (⟨3, ![1, 4096, 192]⟩ : Shape).Idx → EReal) (hp wp : ℕ) (ci : Fin 192) : EReal :=
  if h : (1 ≤ hp ∧ hp ≤ 64) ∧ (1 ≤ wp ∧ wp ≤ 64) then
    x (ix3 0 ⟨(hp - 1) * 64 + (wp - 1), by omega⟩ ci)
  else 0

/-- A pixel of the ring is zero. -/
theorem pixel_of_not (x : (⟨3, ![1, 4096, 192]⟩ : Shape).Idx → EReal) (hp wp : ℕ) (ci : Fin 192)
    (h : ¬((1 ≤ hp ∧ hp ≤ 64) ∧ (1 ≤ wp ∧ wp ≤ 64))) : pixel x hp wp ci = 0 := dif_neg h

/-- A pixel inside the image is the block's row with that position. -/
theorem pixel_of (x : (⟨3, ![1, 4096, 192]⟩ : Shape).Idx → EReal) (hp wp : ℕ) (ci : Fin 192) (q : Fin 4096)
    (h : (1 ≤ hp ∧ hp ≤ 64) ∧ (1 ≤ wp ∧ wp ≤ 64)) (hq : q.val = (hp - 1) * 64 + (wp - 1)) :
    pixel x hp wp ci = x (ix3 0 q ci) := by
  unfold pixel
  rw [dif_pos h]
  exact congrArg (fun q => x (ix3 0 q ci)) (Fin.ext hq.symm)

/-- The padded scratch image: column `256·kw + ci` of row `64·hp + v` is channel `ci` of the padded pixel `(hp, v + kw)`,
    and the last 64 of every 256 columns are zero. -/
def xpad (x : (⟨3, ![1, 4096, 192]⟩ : Shape).Idx → EReal) : (⟨2, ![4224, 768]⟩ : Shape).Idx → EReal := fun y =>
  if h : (y 1).val % 256 < 192 then pixel x ((y 0).val / 64) ((y 0).val % 64 + (y 1).val / 256) ⟨(y 1).val % 256, h⟩ else 0

/-- The weights laid side by side: columns `256·(3·kh + kw) + ci` hold tap `(kh, kw)`, the last 64 of every 256 zero. -/
def wall (w : (⟨4, ![3, 3, 192, 192]⟩ : Shape).Idx → EReal) : (⟨2, ![192, 2304]⟩ : Shape).Idx → EReal := fun y =>
  if h : (y 1).val % 256 < 192 then
    w (ix4 ⟨(y 1).val / 256 / 3, by have := idx2_lt1 y; omega⟩ ⟨(y 1).val / 256 % 3, by omega⟩ (y 0) ⟨(y 1).val % 256, h⟩)
  else 0

/-- One tap at one pixel of a block. -/
def blockTap (x : (⟨3, ![1, 4096, 192]⟩ : Shape).Idx → EReal) (w : (⟨4, ![3, 3, 192, 192]⟩ : Shape).Idx → EReal)
    (o : Fin 192) (p : Fin 4096) (kh kw : Fin 3) : EReal :=
  ∑ ci : Fin 192, w (ix4 kh kw o ci) * pixel x (p.val / 64 + kh.val) (p.val % 64 + kw.val) ci

/-- The hidden features of a block. -/
def blockHidden (x : (⟨3, ![1, 4096, 192]⟩ : Shape).Idx → EReal) (w : (⟨4, ![3, 3, 192, 192]⟩ : Shape).Idx → EReal)
    (β : (⟨2, ![192, 1]⟩ : Shape).Idx → EReal) (o : Fin 192) (p : Fin 4096) : EReal :=
  max ((∑ kh : Fin 3, ∑ kw : Fin 3, blockTap x w o p kh kw) + β (ix2 o 0)) 0

/-- A 1x1 convolution of a block's hidden features to `n` channels, with its bias. -/
def blockHead (n : ℕ) (x : (⟨3, ![1, 4096, 192]⟩ : Shape).Idx → EReal) (w : (⟨4, ![3, 3, 192, 192]⟩ : Shape).Idx → EReal)
    (β : (⟨2, ![192, 1]⟩ : Shape).Idx → EReal) (u : (⟨2, ![n, 192]⟩ : Shape).Idx → EReal)
    (γ : (⟨2, ![n, 1]⟩ : Shape).Idx → EReal) (j : Fin n) (p : Fin 4096) : EReal :=
  (∑ o : Fin 192, u (ix2 j o) * blockHidden x w β o p) + γ (ix2 j 0)

/-! ## The sum over 768 columns -/

/-- A sum over three groups of 256 columns of which only the first 192 count is the sum over the groups of the sums over
    those 192. -/
theorem sum_groups (g : Fin 3 → Fin 192 → EReal) (f : Fin 768 → EReal)
    (hf : ∀ k : Fin 768, f k = if h : k.val % 256 < 192 then g ⟨k.val / 256, by omega⟩ ⟨k.val % 256, h⟩ else 0) :
    ∑ k : Fin 768, f k = ∑ kw : Fin 3, ∑ ci : Fin 192, g kw ci := by
  rw [← Equiv.sum_comp (finProdFinEquiv : Fin 3 × Fin 256 ≃ Fin 768) f, Fintype.sum_prod_type]
  refine Finset.sum_congr rfl fun kw _ => ?_
  rw [show (∑ y : Fin 256, f (finProdFinEquiv (kw, y))) = ∑ y : Fin (192 + 64), f (finProdFinEquiv (kw, y)) from rfl,
    Fin.sum_univ_add]
  have hz : ∑ i : Fin 64, f (finProdFinEquiv (kw, Fin.natAdd 192 i)) = 0 :=
    Finset.sum_eq_zero fun i _ => by
      rw [hf, dif_neg]
      show ¬((192 + i.val + 256 * kw.val) % 256 < 192)
      omega
  rw [hz, add_zero]
  refine Finset.sum_congr rfl fun ci _ => ?_
  have hv : (finProdFinEquiv (kw, (Fin.castAdd 64 ci : Fin 256)) : Fin 768).val = ci.val + 256 * kw.val := rfl
  rw [hf, dif_pos (by rw [hv]; omega)]
  congr 1
  · exact Fin.ext (by show _ / 256 = kw.val; rw [hv]; omega)
  · exact Fin.ext (by show _ % 256 = ci.val; rw [hv]; omega)

end Cert.Rpn

end
-- ==== Proof.Columns.lean ====
/- The three copies of a block's pixels the kernel stores, index by index: the image moved one column right with the first
   column of every row cleared, the image itself, and the image moved one column left with the last column cleared. Each is
   the padded image at one of three column offsets. Also the nine weight matrices, which are stored unchanged. -/
module

public import proofs.«01_k».proof.Proof.Gen.KernelIdeal.Skeleton
public import proofs.«01_k».proof.Proof.Spec
public import Idealize.ShloMosaic.Lib.IdealHost

@[expose] public section

noncomputable section

namespace Cert.Rpn

open Idealize.ShloMosaic Idealize.SL.Sem Idealize.ShloMosaic.ValueIdx
open Cert.KernelIdeal Cert.KernelIdeal.Gen

/-- The column number of pixel `q`, as the kernel computes it: the remainder of `q` by 64. -/
theorem column_word : ∀ q : Fin 4096, k0_pay15 (ix2 q 0) = BitVec.ofNat 32 (q.val % 64) := by decide +kernel

/-- Two words below 64 differ exactly when the numbers do. -/
theorem word_ne : ∀ a b : Fin 64, IntOp.cmpi .ne (BitVec.ofNat 32 a.val) (BitVec.ofNat 32 b.val) = if a = b then 0#1 else 1#1 := by
  decide +kernel

/-- The block's 4096 rows of 192 channels. -/
theorem rows_apply (X : Vec Ideal S1x4096x192 .f32) (q : Fin 4096) (ci : Fin 192) :
    k0_pay13 (F := Ideal) X (ix2 q ci) = X (ix3 0 q ci) :=
  shapeCast_apply X shapeCasts_S1x4096x192_S4096x192 (ix2 q ci) (ix3 0 q ci) (by
    rw [Shape.rowMajor_val_three, Shape.rowMajor_val_two]; simp)

/-- A column test, spread over the channels. -/
theorem mask_apply (m : IVec S4096x1 1) (q : Fin 4096) (ci : Fin 192) :
    broadcastTo S4096x192 (shapeCast S4096x1 m shapeCasts_S4096x1_S4096x1) broadcasts_S4096x1_S4096x192 (ix2 q ci) = m (ix2 q 0) := by
  rw [shapeCast_self]
  exact broadcastTo_apply m broadcasts_S4096x1_S4096x192 (ix2 q ci) (ix2 q 0) (fun a => by
    match a with
    | ⟨0, _⟩ => rfl
    | ⟨1, _⟩ => rfl)

/-- The image moved one column to the right is the padded image at column offset 0. -/
theorem right_apply (X : Vec Ideal S1x4096x192 .f32) (q : Fin 4096) (ci : Fin 192) :
    k0_pay17 (F := Ideal) X (ix2 q ci) = pixel X (q.val / 64 + 1) (q.val % 64) ci := by
  unfold k0_pay17
  rw [shapeCast_self, select_apply, mask_apply, broadcast_apply]
  have hm : cmpi .ne k0_pay15 (broadcast S4096x1 0#32) (ix2 q 0) = if (⟨q.val % 64, by omega⟩ : Fin 64) = 0 then 0#1 else 1#1 := by
    show IntOp.cmpi .ne (k0_pay15 (ix2 q 0)) 0#32 = _
    rw [column_word]
    exact word_ne ⟨q.val % 64, by omega⟩ 0
  rw [hm]
  by_cases h : q.val % 64 = 0
  · rw [if_pos (Fin.ext h), pixel_of_not _ _ _ _ (by omega)]
    exact Ideal.ofBits_zero_bf16
  · rw [if_neg (fun e => h (congrArg Fin.val e))]
    rw [pixel_of X _ _ ci ⟨q.val - 1, by omega⟩ (by omega) (by show q.val - 1 = _; omega), ← rows_apply X]
    refine (concatenate_pair_apply_right (t := S4096x192) (s₁ := S1x192) (s₂ := S4095x192) 0 _ _
      concatenates_S1x192_S4095x192_S4096x192_d0 (ix2 q ci) rfl rfl (ix2 ⟨q.val - 1, by omega⟩ ci) (fun b hb => ?_) ?_).trans ?_
    · match b with
      | ⟨0, _⟩ => exact absurd rfl hb
      | ⟨1, _⟩ => rfl
    · show q.val - 1 + 1 = q.val
      omega
    · exact extractStridedSlice_apply _ _ _ _ (ix2 ⟨q.val - 1, by omega⟩ ci) (fun a => by
        match a with
        | ⟨0, _⟩ => exact (Nat.zero_add _).symm
        | ⟨1, _⟩ => exact (Nat.zero_add _).symm)

/-- The image itself is the padded image at column offset 1. -/
theorem middle_apply (X : Vec Ideal S1x4096x192 .f32) (q : Fin 4096) (ci : Fin 192) :
    k0_pay18 (F := Ideal) (k0_pay13 X) (ix2 q ci) = pixel X (q.val / 64 + 1) (q.val % 64 + 1) ci := by
  unfold k0_pay18
  rw [shapeCast_self, rows_apply, pixel_of X _ _ ci q (by omega) (by omega)]

/-- The image moved one column to the left is the padded image at column offset 2. -/
theorem left_apply (X : Vec Ideal S1x4096x192 .f32) (q : Fin 4096) (ci : Fin 192) :
    k0_pay19 (F := Ideal) (k0_pay13 X) k0_pay16 (ix2 q ci) = pixel X (q.val / 64 + 1) (q.val % 64 + 2) ci := by
  unfold k0_pay19
  rw [shapeCast_self, select_apply, mask_apply, broadcast_apply]
  have hm : k0_pay16 (ix2 q 0) = if (⟨q.val % 64, by omega⟩ : Fin 64) = 63 then 0#1 else 1#1 := by
    show IntOp.cmpi .ne (k0_pay15 (ix2 q 0)) 63#32 = _
    rw [column_word]
    exact word_ne ⟨q.val % 64, by omega⟩ 63
  rw [hm]
  by_cases h : q.val % 64 = 63
  · rw [if_pos (Fin.ext h), pixel_of_not _ _ _ _ (by omega)]
    exact Ideal.ofBits_zero_bf16
  · rw [if_neg (fun e => h (congrArg Fin.val e))]
    rw [pixel_of X _ _ ci ⟨q.val + 1, by omega⟩ (by omega) (by show q.val + 1 = _; omega), ← rows_apply X]
    refine (concatenate_pair_apply_left (t := S4096x192) (s₁ := S4095x192) (s₂ := S1x192) 0 _ _
      concatenates_S4095x192_S1x192_S4096x192_d0 (ix2 q ci) rfl (ix2 ⟨q.val, by omega⟩ ci) (fun b => ?_)).trans ?_
    · match b with
      | ⟨0, _⟩ => rfl
      | ⟨1, _⟩ => rfl
    · exact extractStridedSlice_apply _ _ _ _ (ix2 ⟨q.val + 1, by omega⟩ ci) (fun a => by
        match a with
        | ⟨0, _⟩ => exact Nat.add_comm _ _
        | ⟨1, _⟩ => exact (Nat.zero_add _).symm)

/-- A weight matrix is stored as it was loaded: entry `(o, ci)` of a 192x192 tap. -/
theorem weight_apply (V : Vec Ideal S1x1x192x192 .f32) (o ci : Fin 192) :
    k0_pay5 (F := Ideal) V (ix2 o ci) = V (ix4 0 0 o ci) := by
  unfold k0_pay5
  rw [shapeCast_self]
  exact shapeCast_apply V shapeCasts_S1x1x192x192_S192x192 (ix2 o ci) (ix4 0 0 o ci) (by
    rw [Shape.rowMajor_val_four, Shape.rowMajor_val_two]; simp)

/-- The store that clears the padded image. -/
theorem clear_image (y : S4224x768.Idx) : k0_pay3 (F := Ideal) y = 0 := by
  unfold k0_pay3
  rw [shapeCast_self]
  exact Ideal.ofBits_zero_bf16

/-- The store that clears the weight scratch. -/
theorem clear_wall (y : S192x2304.Idx) : k0_pay4 (F := Ideal) y = 0 := by
  unfold k0_pay4
  rw [shapeCast_self]
  exact Ideal.ofBits_zero_bf16

end Cert.Rpn

end
-- ==== Proof.Scratch.lean ====
/- What the two carried buffers hold after the kernel's stores: the padded image of the point's block, and the weights
   laid side by side. -/
module

public import proofs.«01_k».proof.Proof.Columns

@[expose] public section

noncomputable section

namespace Cert.Rpn

open Idealize.ShloMosaic Idealize.SL.Sem Idealize.ShloMosaic.ValueIdx
open Cert.KernelIdeal Cert.KernelIdeal.Gen

/-- The three stored copies of the image, over contents that are zero wherever the copies do not reach, are the padded
    image: the first box that holds an index is the one its column group names. -/
theorem layer (X : Vec Ideal S1x4096x192 .f32) (f : S4224x768.Idx → EReal) (y : S4224x768.Idx)
    (hf : ¬((64 ≤ (y 0).val ∧ (y 0).val < 4160) ∧ (y 1).val % 256 < 192) → f y = 0) :
    (if h : InBox (S := S4224x768) ![64, 512] S4096x192.size y then
        k0_pay19 (F := Ideal) (k0_pay13 X) k0_pay16 (boxPos (S := S4224x768) ![64, 512] S4096x192.size y h)
      else if h : InBox (S := S4224x768) ![64, 256] S4096x192.size y then
        k0_pay18 (F := Ideal) (k0_pay13 X) (boxPos (S := S4224x768) ![64, 256] S4096x192.size y h)
      else if h : InBox (S := S4224x768) ![64, 0] S4096x192.size y then
        k0_pay17 (F := Ideal) X (boxPos (S := S4224x768) ![64, 0] S4096x192.size y h)
      else f y) = xpad X y := by
  have h0 := idx2_lt0 y
  have h1 := idx2_lt1 y
  have pos : ∀ (o1 : ℕ) (h : InBox (S := S4224x768) ![64, o1] S4096x192.size y),
      boxPos (S := S4224x768) ![64, o1] S4096x192.size y h
        = ix2 ⟨(y 0).val - 64, by have := (inBox_two 64 o1 4096 192 y).mp h; omega⟩
            ⟨(y 1).val - o1, by have := (inBox_two 64 o1 4096 192 y).mp h; omega⟩ := fun o1 h => eq_ix2 _
  have hit : ∀ (kw : ℕ) (hkw : kw < 3) (h : InBox (S := S4224x768) ![64, 256 * kw] S4096x192.size y),
      pixel X (((y 0).val - 64) / 64 + 1) (((y 0).val - 64) % 64 + kw)
        ⟨(y 1).val - 256 * kw, by have := (inBox_two 64 (256 * kw) 4096 192 y).mp h; omega⟩ = xpad X y := by
    intro kw hkw h
    have hb := (inBox_two 64 (256 * kw) 4096 192 y).mp h
    unfold xpad
    rw [dif_pos (by omega)]
    congr 1
    · omega
    · omega
    · exact Fin.ext (by show _ - _ = _ % _; omega)
  by_cases a2 : InBox (S := S4224x768) ![64, 512] S4096x192.size y
  · rw [dif_pos a2, pos 512 a2, left_apply]
    exact hit 2 (by omega) a2
  rw [dif_neg a2]
  by_cases a1 : InBox (S := S4224x768) ![64, 256] S4096x192.size y
  · rw [dif_pos a1, pos 256 a1, middle_apply]
    exact hit 1 (by omega) a1
  rw [dif_neg a1]
  by_cases a0 : InBox (S := S4224x768) ![64, 0] S4096x192.size y
  · rw [dif_pos a0, pos 0 a0, right_apply]
    exact hit 0 (by omega) a0
  rw [dif_neg a0]
  have n2 := mt (inBox_two 64 512 4096 192 y).mpr a2
  have n1 := mt (inBox_two 64 256 4096 192 y).mpr a1
  have n0 := mt (inBox_two 64 0 4096 192 y).mpr a0
  rw [hf (by omega)]
  unfold xpad
  by_cases hc : (y 1).val % 256 < 192
  · rw [dif_pos hc, pixel_of_not _ _ _ _ (by omega)]
  · rw [dif_neg hc]

/-- The padded image is zero outside the rows of pixels and in the unused columns. -/
theorem xpad_outside (X : Vec Ideal S1x4096x192 .f32) (y : S4224x768.Idx)
    (h : ¬((64 ≤ (y 0).val ∧ (y 0).val < 4160) ∧ (y 1).val % 256 < 192)) : xpad X y = 0 := by
  have h0 := idx2_lt0 y
  unfold xpad
  by_cases hc : (y 1).val % 256 < 192
  · rw [dif_pos hc, pixel_of_not _ _ _ _ (by omega)]
  · rw [dif_neg hc]

/-- One weight matrix stored on top of the others: where its box holds the index it is the wall's entry there, so the
    list is the wall as soon as the earlier stores are the wall everywhere else. -/
theorem wall_step [∀ e, Nonempty (Elt Ideal e)] (w : Vec Ideal S3x3x192x192 .f32) (a b col : ℕ) (ha : a < 3) (hb : b < 3) (hcol : col = 256 * (3 * a + b))
    (inb : ∀ d : Fin 2, (![0, col] : Fin 2 → ℕ) d + S192x192.size d ≤ S192x2304.size d)
    (inb' : ∀ d : Fin 4, (![a, b, 0, 0] : Fin 4 → ℕ) d + S1x1x192x192.size d ≤ S3x3x192x192.size d)
    (L : List (View.Piece (Elt Ideal) S192x2304 .bf16)) (y : S192x2304.Idx)
    (h : ¬((y 1).val / 256 = 3 * a + b ∧ (y 1).val % 256 < 192) → View.canon L y = wall w y) :
    View.canon ((⟨Rect.unit (s := S192x2304) ![0, col] S192x192.size inb,
        k0_pay5 (View.ld w (Rect.unit (s := S3x3x192x192) ![a, b, 0, 0] S1x1x192x192.size inb'))⟩ : View.Piece (Elt Ideal) S192x2304 .bf16) :: L) y
      = wall w y := by
  have h0 := idx2_lt0 y
  have h1 := idx2_lt1 y
  classical
  rw [canon_box]
  by_cases hy : InBox (S := S192x2304) ![0, col] S192x192.size y
  · have hb' := (inBox_two 0 col 192 192 y).mp hy
    rw [dif_pos hy]
    have pos : boxPos (S := S192x2304) ![0, col] S192x192.size y hy
        = ix2 (⟨(y 0).val, h0⟩ : Fin 192) (⟨(y 1).val - col, by omega⟩ : Fin 192) := eq_ix2 _
    rw [pos, weight_apply]
    unfold wall
    rw [dif_pos (by omega)]
    show w _ = _
    refine congrArg w (funext fun d => Fin.ext ?_)
    match d with
    | ⟨0, _⟩ => show a + 1 * 0 = (y 1).val / 256 / 3; omega
    | ⟨1, _⟩ => show b + 1 * 0 = (y 1).val / 256 % 3; omega
    | ⟨2, _⟩ => show 0 + 1 * (y 0).val = (y 0).val; omega
    | ⟨3, _⟩ => show 0 + 1 * ((y 1).val - col) = (y 1).val % 256; omega
  · rw [dif_neg hy]
    have n := mt (inBox_two 0 col 192 192 y).mpr hy
    exact h (by omega)

/-- The wall's unused columns are zero. -/
theorem wall_outside (w : Vec Ideal S3x3x192x192 .f32) (y : S192x2304.Idx) (h : ¬(y 1).val % 256 < 192) : wall w y = 0 := by
  unfold wall
  rw [dif_neg h]

end Cert.Rpn

end
-- ==== Proof.Product.lean ====
/- What one grid point computes from the padded image and the wall of weights: three products over 768 columns, one per
   row of taps, add up to the nine taps; the bias, the positive part and the two small products follow. -/
module

public import proofs.«01_k».proof.Proof.Scratch
public import Idealize.ShloMosaic.Lib.MatmulPlain

@[expose] public section

noncomputable section

namespace Cert.Rpn

open Idealize.ShloMosaic Idealize.SL.Sem Idealize.ShloMosaic.ValueIdx
open Cert.KernelIdeal Cert.KernelIdeal.Gen

/-- The 768 columns of the wall that start at `c`. -/
abbrev wallPart (w : Vec Ideal S192x2304 .bf16) (c : ℕ)
    (inb : ∀ d : Fin 2, (![0, c] : Fin 2 → ℕ) d + S192x768.size d ≤ S192x2304.size d) : Vec Ideal S192x768 .bf16 :=
  View.ld w (Rect.unit (s := S192x2304) ![0, c] S192x768.size inb)

/-- The 4096 rows of the padded image that start at `r`. -/
abbrev imagePart (x : Vec Ideal S4224x768 .bf16) (r : ℕ)
    (inb : ∀ d : Fin 2, (![r, 0] : Fin 2 → ℕ) d + S4096x768.size d ≤ S4224x768.size d) : Vec Ideal S4096x768 .bf16 :=
  View.ld x (Rect.unit (s := S4224x768) ![r, 0] S4096x768.size inb)

/-- An entry of the wall's part for tap row `kh`. -/
theorem wallPart_apply (w : Vec Ideal S3x3x192x192 .f32) (kh : Fin 3) (c : ℕ) (hc : c = 768 * kh.val) (inb) (o : Fin 192) (k : Fin 768) :
    wallPart (wall w) c inb (ix2 o k)
      = if h : k.val % 256 < 192 then w (ix4 kh ⟨k.val / 256, by omega⟩ o ⟨k.val % 256, h⟩) else 0 := by
  have e : wallPart (wall w) c inb (ix2 o k) = wall w (ix2 o ⟨c + k.val, by omega⟩) :=
    congrArg (wall w) (funext fun d => Fin.ext (by
      match d with
      | ⟨0, _⟩ => show 0 + 1 * o.val = o.val; omega
      | ⟨1, _⟩ => show c + 1 * k.val = c + k.val; omega))
  rw [e]
  unfold wall
  have e1 : (c + k.val) % 256 = k.val % 256 := by omega
  by_cases h : k.val % 256 < 192
  · rw [dif_pos (show (c + k.val) % 256 < 192 by omega), dif_pos h]
    refine congrArg w (funext fun d => Fin.ext ?_)
    match d with
    | ⟨0, _⟩ => show (c + k.val) / 256 / 3 = kh.val; omega
    | ⟨1, _⟩ => show (c + k.val) / 256 % 3 = k.val / 256; omega
    | ⟨2, _⟩ => rfl
    | ⟨3, _⟩ => exact e1
  · rw [dif_neg (show ¬(c + k.val) % 256 < 192 by omega), dif_neg h]

/-- An entry of the padded image's part for tap row `kh`. -/
theorem imagePart_apply (X : Vec Ideal S1x4096x192 .f32) (kh : Fin 3) (r : ℕ) (hr : r = 64 * kh.val) (inb) (p : Fin 4096) (k : Fin 768) :
    imagePart (xpad X) r inb (ix2 p k)
      = if h : k.val % 256 < 192 then pixel X (p.val / 64 + kh.val) (p.val % 64 + k.val / 256) ⟨k.val % 256, h⟩ else 0 := by
  have e : imagePart (xpad X) r inb (ix2 p k) = xpad X (ix2 ⟨r + p.val, by omega⟩ k) :=
    congrArg (xpad X) (funext fun d => Fin.ext (by
      match d with
      | ⟨0, _⟩ => show r + 1 * p.val = r + p.val; omega
      | ⟨1, _⟩ => show 0 + 1 * k.val = k.val; omega))
  rw [e]
  show (if h : k.val % 256 < 192 then pixel X ((r + p.val) / 64) ((r + p.val) % 64 + k.val / 256) ⟨k.val % 256, h⟩ else 0) = _
  rw [show (r + p.val) / 64 = p.val / 64 + kh.val by omega, show (r + p.val) % 64 = p.val % 64 by omega]

/-- One product over 768 columns is the sum of one row of taps. -/
theorem row_apply (X : Vec Ideal S1x4096x192 .f32) (w : Vec Ideal S3x3x192x192 .f32) (kh : Fin 3) (c r : ℕ)
    (hc : c = 768 * kh.val) (hr : r = 64 * kh.val) (inb inb') (o : Fin 192) (p : Fin 4096) :
    matmul (F := Ideal) (φ₁ := .bf16) (φ₂ := .bf16) dot_S192x768_S4096x768_S192x4096_1_1_0_0_n_n none (wallPart (wall w) c inb) (imagePart (xpad X) r inb')
        (constant (F := Ideal) S192x4096 .f32 0x00000000#32) (ix2 o p)
      = ∑ kw : Fin 3, blockTap X w o p kh kw := by
  refine (Ideal.matmul_transposedRhs_apply (M := 192) (K := 768) (N := 4096) none _ _ _ o p).trans ?_
  have hz : constant (F := Ideal) S192x4096 .f32 0x00000000#32 (ix2 o p) = 0 := Ideal.ofBits_zero_f32
  rw [hz, zero_add]
  refine sum_groups (fun kw ci => w (ix4 kh kw o ci) * pixel X (p.val / 64 + kh.val) (p.val % 64 + kw.val) ci) _ fun k => ?_
  rw [wallPart_apply w kh c hc, imagePart_apply X kh r hr]
  by_cases h : k.val % 256 < 192
  · rw [dif_pos h, dif_pos h, dif_pos h]
  · rw [dif_neg h, dif_neg h, dif_neg h, mul_zero]

/-- The hidden features of the block, from the scratch buffers' three parts each. -/
theorem hidden_apply (X : Vec Ideal S1x4096x192 .f32) (w : Vec Ideal S3x3x192x192 .f32) (β : Vec Ideal S192x1 .f32)
    (i0 i1 i2 j0 j1 j2) (o : Fin 192) (p : Fin 4096) :
    k0_pay20 (F := Ideal) (wallPart (wall w) 0 i0) (imagePart (xpad X) 0 j0) (wallPart (wall w) 768 i1) (imagePart (xpad X) 64 j1)
        (wallPart (wall w) 1536 i2) (imagePart (xpad X) 128 j2) β (ix2 o p)
      = blockHidden X w β o p := by
  unfold k0_pay20
  rw [maximumf_apply, addf_apply, addf_apply, addf_apply, row_apply X w 0 0 0 rfl rfl, row_apply X w 1 768 64 rfl rfl,
    row_apply X w 2 1536 128 rfl rfl, shapeCast_self,
    broadcastTo_apply β broadcasts_S192x1_S192x4096 (ix2 o p) (ix2 o 0) (fun a => by
      match a with
      | ⟨0, _⟩ => rfl
      | ⟨1, _⟩ => rfl)]
  have hz : broadcast S192x4096 (Scalar.ofBits (F := Ideal) .f32 0x00000000#32) (ix2 o p) = 0 := Ideal.ofBits_zero_f32
  rw [hz]
  unfold blockHidden
  rw [Fin.sum_univ_three (fun kh : Fin 3 => ∑ kw : Fin 3, blockTap X w o p kh kw)]

/-- A row-after-row array of 4096 pixels seen as 64x64 images under one leading unit axis. -/
theorem image_apply {n : ℕ} (x : (⟨2, ![n, 4096]⟩ : Shape).Idx → EReal) (h h') (j : Fin n) (r v : Fin 64) :
    shapeCast (⟨4, ![1, n, 64, 64]⟩ : Shape) (shapeCast (⟨3, ![n, 64, 64]⟩ : Shape) x h) h' (ix4 0 j r v)
      = x (ix2 j ⟨r.val * 64 + v.val, by omega⟩) := by
  rw [shapeCast_apply _ h' _ (ix3 j r v) (by
    rw [Shape.rowMajor_val_three, Shape.rowMajor_val_four]
    show (j.val * 64 + r.val) * 64 + v.val = ((0 * n + j.val) * 64 + r.val) * 64 + v.val
    omega)]
  exact shapeCast_apply _ h _ _ (by
    rw [Shape.rowMajor_val_three, Shape.rowMajor_val_two]
    show j.val * 4096 + (r.val * 64 + v.val) = (j.val * 64 + r.val) * 64 + v.val
    omega)

/-- The nine-channel output of a point, entry by entry. -/
theorem cls_apply (X : Vec Ideal S1x4096x192 .f32) (w : Vec Ideal S3x3x192x192 .f32) (β : Vec Ideal S192x1 .f32)
    (u : Vec Ideal S9x192 .f32) (γ : Vec Ideal S9x1 .f32) (i0 i1 i2 j0 j1 j2) (j : Fin 9) (r v : Fin 64) :
    k0_pay1 (F := Ideal) (k0_pay21 (wallPart (wall w) 0 i0) (imagePart (xpad X) 0 j0) (wallPart (wall w) 768 i1) (imagePart (xpad X) 64 j1)
        (wallPart (wall w) 1536 i2) (imagePart (xpad X) 128 j2) β u) γ (ix4 0 j r v)
      = blockHead 9 X w β u γ j ⟨r.val * 64 + v.val, by omega⟩ := by
  unfold k0_pay1 k0_pay21
  refine (image_apply (n := 9) _ shapeCasts_S9x4096_S9x64x64 shapeCasts_S9x64x64_S1x9x64x64 j r v).trans ?_
  rw [addf_apply, shapeCast_self, shapeCast_self,
    broadcastTo_apply γ broadcasts_S9x1_S9x4096 (ix2 j _) (ix2 j 0) (fun a => by
      match a with
      | ⟨0, _⟩ => rfl
      | ⟨1, _⟩ => rfl)]
  refine congrArg (· + γ (ix2 j 0)) ?_
  refine (Ideal.matmul_plain_apply (M := 9) (K := 192) (N := 4096) none _ _ _ j _).trans ?_
  have hz : ∀ p, constant (F := Ideal) S9x4096 .f32 0x00000000#32 p = 0 := fun _ => Ideal.ofBits_zero_f32
  rw [hz, zero_add]
  exact Finset.sum_congr rfl fun o _ => by rw [hidden_apply]

/-- The thirty-six-channel output of a point, entry by entry. -/
theorem bbox_apply (X : Vec Ideal S1x4096x192 .f32) (w : Vec Ideal S3x3x192x192 .f32) (β : Vec Ideal S192x1 .f32)
    (u : Vec Ideal S36x192 .f32) (γ : Vec Ideal S36x1 .f32) (i0 i1 i2 j0 j1 j2) (j : Fin 36) (r v : Fin 64) :
    k0_pay2 (F := Ideal) (k0_pay20 (wallPart (wall w) 0 i0) (imagePart (xpad X) 0 j0) (wallPart (wall w) 768 i1) (imagePart (xpad X) 64 j1)
        (wallPart (wall w) 1536 i2) (imagePart (xpad X) 128 j2) β) u γ (ix4 0 j r v)
      = blockHead 36 X w β u γ j ⟨r.val * 64 + v.val, by omega⟩ := by
  unfold k0_pay2
  refine (image_apply (n := 36) _ shapeCasts_S36x4096_S36x64x64 shapeCasts_S36x64x64_S1x36x64x64 j r v).trans ?_
  rw [addf_apply, shapeCast_self, shapeCast_self,
    broadcastTo_apply γ broadcasts_S36x1_S36x4096 (ix2 j _) (ix2 j 0) (fun a => by
      match a with
      | ⟨0, _⟩ => rfl
      | ⟨1, _⟩ => rfl)]
  refine congrArg (· + γ (ix2 j 0)) ?_
  refine (Ideal.matmul_plain_apply (M := 36) (K := 192) (N := 4096) none _ _ _ j _).trans ?_
  have hz : ∀ p, constant (F := Ideal) S36x4096 .f32 0x00000000#32 p = 0 := fun _ => Ideal.ofBits_zero_f32
  rw [hz, zero_add]
  exact Finset.sum_congr rfl fun o _ => by rw [hidden_apply]

/-- The same from any six loads known to be those parts. -/
theorem cls_of (X : Vec Ideal S1x4096x192 .f32) (w : Vec Ideal S3x3x192x192 .f32) (β : Vec Ideal S192x1 .f32)
    (u : Vec Ideal S9x192 .f32) (γ : Vec Ideal S9x1 .f32) (i0 i1 i2 j0 j1 j2) {W0 W1 W2 : Vec Ideal S192x768 .bf16}
    {X0 X1 X2 : Vec Ideal S4096x768 .bf16} (w0 : W0 = wallPart (wall w) 0 i0) (e0 : X0 = imagePart (xpad X) 0 j0)
    (w1 : W1 = wallPart (wall w) 768 i1) (e1 : X1 = imagePart (xpad X) 64 j1)
    (w2 : W2 = wallPart (wall w) 1536 i2) (e2 : X2 = imagePart (xpad X) 128 j2) (j : Fin 9) (r v : Fin 64) :
    k0_pay1 (F := Ideal) (k0_pay21 W0 X0 W1 X1 W2 X2 β u) γ (ix4 0 j r v) = blockHead 9 X w β u γ j ⟨r.val * 64 + v.val, by omega⟩ := by
  subst w0 e0 w1 e1 w2 e2
  exact cls_apply X w β u γ i0 i1 i2 j0 j1 j2 j r v

/-- The same from any six loads known to be those parts. -/
theorem bbox_of (X : Vec Ideal S1x4096x192 .f32) (w : Vec Ideal S3x3x192x192 .f32) (β : Vec Ideal S192x1 .f32)
    (u : Vec Ideal S36x192 .f32) (γ : Vec Ideal S36x1 .f32) (i0 i1 i2 j0 j1 j2) {W0 W1 W2 : Vec Ideal S192x768 .bf16}
    {X0 X1 X2 : Vec Ideal S4096x768 .bf16} (w0 : W0 = wallPart (wall w) 0 i0) (e0 : X0 = imagePart (xpad X) 0 j0)
    (w1 : W1 = wallPart (wall w) 768 i1) (e1 : X1 = imagePart (xpad X) 64 j1)
    (w2 : W2 = wallPart (wall w) 1536 i2) (e2 : X2 = imagePart (xpad X) 128 j2) (j : Fin 36) (r v : Fin 64) :
    k0_pay2 (F := Ideal) (k0_pay20 W0 X0 W1 X1 W2 X2 β) u γ (ix4 0 j r v) = blockHead 36 X w β u γ j ⟨r.val * 64 + v.val, by omega⟩ := by
  subst w0 e0 w1 e1 w2 e2
  exact bbox_apply X w β u γ i0 i1 i2 j0 j1 j2 j r v

end Cert.Rpn

end
-- ==== Proof.Block.lean ====
/- What one grid point leaves, in closed form: the two carried buffers hold the padded image of the point's block and the
   wall of weights, and the two outputs' blocks hold the two heads of that block. The first point starts from buffers it
   clears, every other point from what the point before it left. -/
module

public import proofs.«01_k».proof.Proof.Product
public import proofs.«01_k».proof.Proof.Gen.KernelIdeal.Frame
public import Idealize.ShloMosaic.Lib.Pipeline.Value
public import Idealize.ShloMosaic.Lib.Tactic

@[expose] public section

noncomputable section

namespace Cert.Rpn

open Idealize.ShloMosaic Idealize.ShloMosaic.TcCoe Idealize.SL.Sem Idealize.ShloMosaic.ValueIdx
open Cert.KernelIdeal Cert.KernelIdeal.Gen

/-- The three copies of the image as they are stored, last first. -/
abbrev copies (X : Vec Ideal S1x4096x192 .f32) (L : List (View.Piece (Elt Ideal) S4224x768 .bf16)) : List (View.Piece (Elt Ideal) S4224x768 .bf16) :=
  ⟨Rect.unit (s := S4224x768) ![64, 512] S4096x192.size inb_S4224x768_S4096x192_64_512, k0_pay19 (F := Ideal) (k0_pay13 X) k0_pay16⟩ ::
  ⟨Rect.unit (s := S4224x768) ![64, 256] S4096x192.size inb_S4224x768_S4096x192_64_256, k0_pay18 (F := Ideal) (k0_pay13 X)⟩ ::
  ⟨Rect.unit (s := S4224x768) ![64, 0] S4096x192.size inb_S4224x768_S4096x192_64_0, k0_pay17 (F := Ideal) X⟩ :: L

/-- The store that clears the whole image buffer. -/
abbrev imageCleared : List (View.Piece (Elt Ideal) S4224x768 .bf16) :=
  [⟨Rect.unit (s := S4224x768) ![0, 0] S4224x768.size inb_S4224x768_S4224x768_0_0, k0_pay3 (F := Ideal)⟩]

/-- The nine weight matrices as they are stored, last first, after the weight buffer is cleared. -/
abbrev wallStores (w : Vec Ideal S3x3x192x192 .f32) : List (View.Piece (Elt Ideal) S192x2304 .bf16) :=
  [⟨Rect.unit (s := S192x2304) ![0, 2048] S192x192.size inb_S192x2304_S192x192_0_2048,
      k0_pay14 (F := Ideal) (View.ld w (Rect.unit (s := S3x3x192x192) ![2, 2, 0, 0] S1x1x192x192.size inb_S3x3x192x192_S1x1x192x192_2_2_0_0))⟩,
    ⟨Rect.unit (s := S192x2304) ![0, 1792] S192x192.size inb_S192x2304_S192x192_0_1792,
      k0_pay12 (F := Ideal) (View.ld w (Rect.unit (s := S3x3x192x192) ![2, 1, 0, 0] S1x1x192x192.size inb_S3x3x192x192_S1x1x192x192_2_1_0_0))⟩,
    ⟨Rect.unit (s := S192x2304) ![0, 1536] S192x192.size inb_S192x2304_S192x192_0_1536,
      k0_pay11 (F := Ideal) (View.ld w (Rect.unit (s := S3x3x192x192) ![2, 0, 0, 0] S1x1x192x192.size inb_S3x3x192x192_S1x1x192x192_2_0_0_0))⟩,
    ⟨Rect.unit (s := S192x2304) ![0, 1280] S192x192.size inb_S192x2304_S192x192_0_1280,
      k0_pay10 (F := Ideal) (View.ld w (Rect.unit (s := S3x3x192x192) ![1, 2, 0, 0] S1x1x192x192.size inb_S3x3x192x192_S1x1x192x192_1_2_0_0))⟩,
    ⟨Rect.unit (s := S192x2304) ![0, 1024] S192x192.size inb_S192x2304_S192x192_0_1024,
      k0_pay9 (F := Ideal) (View.ld w (Rect.unit (s := S3x3x192x192) ![1, 1, 0, 0] S1x1x192x192.size inb_S3x3x192x192_S1x1x192x192_1_1_0_0))⟩,
    ⟨Rect.unit (s := S192x2304) ![0, 768] S192x192.size inb_S192x2304_S192x192_0_768,
      k0_pay8 (F := Ideal) (View.ld w (Rect.unit (s := S3x3x192x192) ![1, 0, 0, 0] S1x1x192x192.size inb_S3x3x192x192_S1x1x192x192_1_0_0_0))⟩,
    ⟨Rect.unit (s := S192x2304) ![0, 512] S192x192.size inb_S192x2304_S192x192_0_512,
      k0_pay7 (F := Ideal) (View.ld w (Rect.unit (s := S3x3x192x192) ![0, 2, 0, 0] S1x1x192x192.size inb_S3x3x192x192_S1x1x192x192_0_2_0_0))⟩,
    ⟨Rect.unit (s := S192x2304) ![0, 256] S192x192.size inb_S192x2304_S192x192_0_256,
      k0_pay6 (F := Ideal) (View.ld w (Rect.unit (s := S3x3x192x192) ![0, 1, 0, 0] S1x1x192x192.size inb_S3x3x192x192_S1x1x192x192_0_1_0_0))⟩,
    ⟨Rect.unit (s := S192x2304) ![0, 0] S192x192.size inb_S192x2304_S192x192_0_0,
      k0_pay5 (F := Ideal) (View.ld w (Rect.unit (s := S3x3x192x192) ![0, 0, 0, 0] S1x1x192x192.size inb_S3x3x192x192_S1x1x192x192_0_0_0_0))⟩,
    ⟨Rect.unit (s := S192x2304) ![0, 0] S192x2304.size inb_S192x2304_S192x2304_0_0, k0_pay4 (F := Ideal)⟩]

/-- The stores of the first point into the image buffer leave the padded image. -/
theorem image_list [∀ e, Nonempty (Elt Ideal e)] (X : Vec Ideal S1x4096x192 .f32) :
    View.canon (copies X imageCleared) = xpad X := by
  funext y
  classical
  rw [canon_box, canon_box, canon_box, View.canon_unit_zero (S := S4224x768) (by decide)]
  exact layer X _ y fun _ => clear_image y

/-- A rectangle of the image buffer loaded after those stores is that rectangle of the padded image. -/
theorem image_read [∀ e, Nonempty (Elt Ideal e)] (v : View sig .tc .vmem S4224x768 .bf16) (X : Vec Ideal S1x4096x192 .f32) (r : Rect S4224x768) :
    v.readCov (copies X imageCleared) r.toLoadRect = View.ld (xpad X) r := by
  rw [View.readCov_eq_canon_ld v _ r (View.cover_of_wholeMem _ (by sl_whole_mem)), image_list]

/-- The stores of a later point into an image buffer that held a padded image leave the padded image of its own block. -/
theorem image_list_over (v : View sig .tc .vmem S4224x768 .bf16) (f : v.ty.Contents (Elt Ideal)) (X X' : Vec Ideal S1x4096x192 .f32)
    (hf : v.read (Elt Ideal) f = xpad X') : v.read (Elt Ideal) (v.writes (Elt Ideal) f (copies X [])) = xpad X := by
  funext y
  classical
  rw [read_box, read_box, read_box]
  refine layer X _ y fun h => ?_
  show v.read (Elt Ideal) f y = 0
  rw [hf]
  exact xpad_outside X' y h

/-- The stores of the first point into the weight buffer leave the wall of weights. -/
theorem wall_list [∀ e, Nonempty (Elt Ideal e)] (w : Vec Ideal S3x3x192x192 .f32) : View.canon (wallStores w) = wall w := by
  funext y
  have h1 := idx2_lt1 y
  refine wall_step w 2 2 2048 (by omega) (by omega) rfl _ _ _ y fun n8 => ?_
  refine wall_step w 2 1 1792 (by omega) (by omega) rfl _ _ _ y fun n7 => ?_
  refine wall_step w 2 0 1536 (by omega) (by omega) rfl _ _ _ y fun n6 => ?_
  refine wall_step w 1 2 1280 (by omega) (by omega) rfl _ _ _ y fun n5 => ?_
  refine wall_step w 1 1 1024 (by omega) (by omega) rfl _ _ _ y fun n4 => ?_
  refine wall_step w 1 0 768 (by omega) (by omega) rfl _ _ _ y fun n3 => ?_
  refine wall_step w 0 2 512 (by omega) (by omega) rfl _ _ _ y fun n2 => ?_
  refine wall_step w 0 1 256 (by omega) (by omega) rfl _ _ _ y fun n1 => ?_
  refine wall_step w 0 0 0 (by omega) (by omega) rfl _ _ _ y fun n0 => ?_
  rw [View.canon_unit_zero (S := S192x2304) (by decide), wall_outside w y (by omega)]
  exact clear_wall y

/-- A rectangle of the weight buffer loaded after those stores is that rectangle of the wall. -/
theorem wall_read [∀ e, Nonempty (Elt Ideal e)] (v : View sig .tc .vmem S192x2304 .bf16) (w : Vec Ideal S3x3x192x192 .f32) (r : Rect S192x2304) :
    v.readCov (wallStores w) r.toLoadRect = View.ld (wall w) r := by
  rw [View.readCov_eq_canon_ld v _ r (View.cover_of_wholeMem _ (by sl_whole_mem)), wall_list]

variable (c : Dev nD) (i : grid0.Coords)
  (arg1 : Memref sig .tc .vmem S1x4096x192 .f32) (harg1 : arg1.IsWhole)
  (arg2 : Memref sig .tc .vmem S3x3x192x192 .f32) (harg2 : arg2.IsWhole)
  (arg3 : Memref sig .tc .vmem S192x1 .f32) (harg3 : arg3.IsWhole)
  (arg4 : Memref sig .tc .vmem S9x192 .f32) (harg4 : arg4.IsWhole)
  (arg5 : Memref sig .tc .vmem S36x192 .f32) (harg5 : arg5.IsWhole)
  (arg6 : Memref sig .tc .vmem S9x1 .f32) (harg6 : arg6.IsWhole)
  (arg7 : Memref sig .tc .vmem S36x1 .f32) (harg7 : arg7.IsWhole)
  (arg8 : Memref sig .tc .vmem S1x9x64x64 .f32) (harg8 : arg8.IsWhole)
  (arg9 : Memref sig .tc .vmem S1x36x64x64 .f32) (harg9 : arg9.IsWhole)
  (arg10 : Memref sig .tc .vmem S4224x768 .bf16) (harg10 : arg10.IsWhole)
  (arg11 : Memref sig .tc .vmem S192x2304 .bf16) (harg11 : arg11.IsWhole)
  (x0 : Vec Ideal S1x4096x192 .f32) (x1 : Vec Ideal S3x3x192x192 .f32) (x2 : Vec Ideal S192x1 .f32)
  (x3 : Vec Ideal S9x192 .f32) (x4 : Vec Ideal S36x192 .f32) (x5 : Vec Ideal S9x1 .f32) (x6 : Vec Ideal S36x1 .f32)

/-- The first point clears the image buffer and stores the three copies: the padded image of its block. -/
theorem image_first (hc0 : cond0_0 i) :
    sout0_A_0 (F := Ideal) c i arg1 harg1 arg2 harg2 arg3 harg3 arg4 harg4 arg5 harg5 arg6 harg6 arg7 harg7 arg8 harg8 arg9 harg9
      arg10 harg10 arg11 harg11 hc0 x0 x1 x2 x3 x4 x5 x6 = xpad x0 := by
  unfold sout0_A_0
  rw [View.read_writes_eq_canon _ _ _ (scover0_A_0 c i arg1 harg1 arg2 harg2 arg3 harg3 arg4 harg4 arg5 harg5 arg6 harg6 arg7 harg7
    arg8 harg8 arg9 harg9 arg10 harg10 arg11 harg11 hc0 x0 x1 x2 x3 x4 x5 x6)]
  unfold kernelRun0_A
  dsimp only
  sl_unfold_words
  simp only [View.readAt_eq_ld, harg1.read_unread]
  rw [View.ld_unit_zero (S := S1x4096x192) (by decide)]
  exact image_list x0

/-- Every later point stores the three copies over an image buffer that already held a padded image: the padded image of
    its own block. -/
theorem image_later (hc0 : ¬cond0_0 i) (X : Vec Ideal S1x4096x192 .f32) (xs1 : Vec Ideal S192x2304 .bf16) :
    sout0_B_0 (F := Ideal) c i arg1 harg1 arg2 harg2 arg3 harg3 arg4 harg4 arg5 harg5 arg6 harg6 arg7 harg7 arg8 harg8 arg9 harg9
      arg10 harg10 arg11 harg11 hc0 x0 x1 x2 x3 x4 x5 x6 (xpad X) xs1 = xpad x0 := by
  unfold sout0_B_0
  unfold kernelRun0_B
  dsimp only
  sl_unfold_words
  simp only [View.readAt_eq_ld, harg1.read_unread]
  rw [View.ld_unit_zero (S := S1x4096x192) (by decide)]
  exact image_list_over arg10.view _ x0 X (harg10.read_unread _)

/-- The first point clears the weight buffer and stores the nine matrices: the wall of weights. -/
theorem wall_first (hc0 : cond0_0 i) :
    sout0_A_1 (F := Ideal) c i arg1 harg1 arg2 harg2 arg3 harg3 arg4 harg4 arg5 harg5 arg6 harg6 arg7 harg7 arg8 harg8 arg9 harg9
      arg10 harg10 arg11 harg11 hc0 x0 x1 x2 x3 x4 x5 x6 = wall x1 := by
  unfold sout0_A_1
  rw [View.read_writes_eq_canon _ _ _ (scover0_A_1 c i arg1 harg1 arg2 harg2 arg3 harg3 arg4 harg4 arg5 harg5 arg6 harg6 arg7 harg7
    arg8 harg8 arg9 harg9 arg10 harg10 arg11 harg11 hc0 x0 x1 x2 x3 x4 x5 x6)]
  unfold kernelRun0_A
  dsimp only
  sl_unfold_words
  simp only [View.readAt_eq_ld, harg2.read_unread]
  exact wall_list x1

/-- The nine-channel block the first point leaves. -/
theorem cls_first (hc0 : cond0_0 i) (j : Fin 9) (r v : Fin 64) :
    out0_A_7 (F := Ideal) c i arg1 harg1 arg2 harg2 arg3 harg3 arg4 harg4 arg5 harg5 arg6 harg6 arg7 harg7 arg8 harg8 arg9 harg9
      arg10 harg10 arg11 harg11 hc0 x0 x1 x2 x3 x4 x5 x6 (ix4 0 j r v)
      = blockHead 9 x0 x1 x2 x3 x5 j ⟨r.val * 64 + v.val, by omega⟩ := by
  unfold out0_A_7
  rw [View.read_writes_eq_canon _ _ _ (cover0_A_7 c i arg1 harg1 arg2 harg2 arg3 harg3 arg4 harg4 arg5 harg5 arg6 harg6 arg7 harg7 arg8 harg8 arg9 harg9
      arg10 harg10 arg11 harg11 hc0 x0 x1 x2 x3 x4 x5 x6)]
  unfold kernelRun0_A
  dsimp only
  sl_unfold_words
  simp only [View.readAt_eq_ld, harg1.read_unread, harg2.read_unread, harg3.read_unread, harg4.read_unread, harg6.read_unread]
  rw [View.canon_unit_zero (S := S1x9x64x64) (by decide), View.ld_unit_zero (S := S1x4096x192) (by decide),
    View.ld_unit_zero (S := S192x1) (by decide), View.ld_unit_zero (S := S9x192) (by decide), View.ld_unit_zero (S := S9x1) (by decide)]
  exact cls_of x0 x1 x2 x3 x5 _ _ _ _ _ _ (wall_read _ x1 _) (image_read _ x0 _) (wall_read _ x1 _) (image_read _ x0 _)
    (wall_read _ x1 _) (image_read _ x0 _) j r v

/-- The thirty-six-channel block the first point leaves. -/
theorem bbox_first (hc0 : cond0_0 i) (j : Fin 36) (r v : Fin 64) :
    out0_A_8 (F := Ideal) c i arg1 harg1 arg2 harg2 arg3 harg3 arg4 harg4 arg5 harg5 arg6 harg6 arg7 harg7 arg8 harg8 arg9 harg9
      arg10 harg10 arg11 harg11 hc0 x0 x1 x2 x3 x4 x5 x6 (ix4 0 j r v)
      = blockHead 36 x0 x1 x2 x4 x6 j ⟨r.val * 64 + v.val, by omega⟩ := by
  unfold out0_A_8
  rw [View.read_writes_eq_canon _ _ _ (cover0_A_8 c i arg1 harg1 arg2 harg2 arg3 harg3 arg4 harg4 arg5 harg5 arg6 harg6 arg7 harg7 arg8 harg8 arg9 harg9
      arg10 harg10 arg11 harg11 hc0 x0 x1 x2 x3 x4 x5 x6)]
  unfold kernelRun0_A
  dsimp only
  sl_unfold_words
  simp only [View.readAt_eq_ld, harg1.read_unread, harg2.read_unread, harg3.read_unread, harg5.read_unread, harg7.read_unread]
  rw [View.canon_unit_zero (S := S1x36x64x64) (by decide), View.ld_unit_zero (S := S1x4096x192) (by decide),
    View.ld_unit_zero (S := S192x1) (by decide), View.ld_unit_zero (S := S36x192) (by decide), View.ld_unit_zero (S := S36x1) (by decide)]
  exact bbox_of x0 x1 x2 x4 x6 _ _ _ _ _ _ (wall_read _ x1 _) (image_read _ x0 _) (wall_read _ x1 _) (image_read _ x0 _)
    (wall_read _ x1 _) (image_read _ x0 _) j r v

/-- The nine-channel block a later point leaves, over a padded image and the wall of weights. -/
theorem cls_later (hc0 : ¬cond0_0 i) (X : Vec Ideal S1x4096x192 .f32) (j : Fin 9) (r v : Fin 64) :
    out0_B_7 (F := Ideal) c i arg1 harg1 arg2 harg2 arg3 harg3 arg4 harg4 arg5 harg5 arg6 harg6 arg7 harg7 arg8 harg8 arg9 harg9
      arg10 harg10 arg11 harg11 hc0 x0 x1 x2 x3 x4 x5 x6 (xpad X) (wall x1) (ix4 0 j r v)
      = blockHead 9 x0 x1 x2 x3 x5 j ⟨r.val * 64 + v.val, by omega⟩ := by
  unfold out0_B_7
  rw [View.read_writes_eq_canon _ _ _ (cover0_B_7 c i arg1 harg1 arg2 harg2 arg3 harg3 arg4 harg4 arg5 harg5 arg6 harg6 arg7 harg7 arg8 harg8 arg9 harg9
      arg10 harg10 arg11 harg11 hc0 x0 x1 x2 x3 x4 x5 x6 (xpad X) (wall x1))]
  unfold kernelRun0_B
  dsimp only
  sl_unfold_words
  simp only [View.readAt_eq_ld, harg1.read_unread, harg3.read_unread, harg4.read_unread, harg6.read_unread, harg11.read_unread]
  rw [View.canon_unit_zero (S := S1x9x64x64) (by decide), View.ld_unit_zero (S := S1x4096x192) (by decide),
    View.ld_unit_zero (S := S192x1) (by decide), View.ld_unit_zero (S := S9x192) (by decide), View.ld_unit_zero (S := S9x1) (by decide)]
  have hi := image_list_over arg10.view _ x0 X (harg10.read_unread _)
  exact cls_of x0 x1 x2 x3 x5 _ _ _ _ _ _ rfl (congrArg (View.ld · _) hi) rfl (congrArg (View.ld · _) hi) rfl (congrArg (View.ld · _) hi) j r v

/-- The thirty-six-channel block a later point leaves, over a padded image and the wall of weights. -/
theorem bbox_later (hc0 : ¬cond0_0 i) (X : Vec Ideal S1x4096x192 .f32) (j : Fin 36) (r v : Fin 64) :
    out0_B_8 (F := Ideal) c i arg1 harg1 arg2 harg2 arg3 harg3 arg4 harg4 arg5 harg5 arg6 harg6 arg7 harg7 arg8 harg8 arg9 harg9
      arg10 harg10 arg11 harg11 hc0 x0 x1 x2 x3 x4 x5 x6 (xpad X) (wall x1) (ix4 0 j r v)
      = blockHead 36 x0 x1 x2 x4 x6 j ⟨r.val * 64 + v.val, by omega⟩ := by
  unfold out0_B_8
  rw [View.read_writes_eq_canon _ _ _ (cover0_B_8 c i arg1 harg1 arg2 harg2 arg3 harg3 arg4 harg4 arg5 harg5 arg6 harg6 arg7 harg7 arg8 harg8 arg9 harg9
      arg10 harg10 arg11 harg11 hc0 x0 x1 x2 x3 x4 x5 x6 (xpad X) (wall x1))]
  unfold kernelRun0_B
  dsimp only
  sl_unfold_words
  simp only [View.readAt_eq_ld, harg1.read_unread, harg3.read_unread, harg5.read_unread, harg7.read_unread, harg11.read_unread]
  rw [View.canon_unit_zero (S := S1x36x64x64) (by decide), View.ld_unit_zero (S := S1x4096x192) (by decide),
    View.ld_unit_zero (S := S192x1) (by decide), View.ld_unit_zero (S := S36x192) (by decide), View.ld_unit_zero (S := S36x1) (by decide)]
  have hi := image_list_over arg10.view _ x0 X (harg10.read_unread _)
  exact bbox_of x0 x1 x2 x4 x6 _ _ _ _ _ _ rfl (congrArg (View.ld · _) hi) rfl (congrArg (View.ld · _) hi) rfl (congrArg (View.ld · _) hi) j r v

end Cert.Rpn

end
-- ==== Proof.Agree.lean ====
/- When the blocks one grid point reads are cuts of the whole arrays, what is computed over the blocks (`blockHead`) is what
   is computed over the whole arrays (`head`). -/
module

public import proofs.«01_k».proof.Proof.Block

@[expose] public section

noncomputable section

namespace Cert.Rpn

open Idealize.ShloMosaic Idealize.SL.Sem Idealize.ShloMosaic.ValueIdx

variable (b : Fin 8) (x : (⟨4, ![8, 192, 64, 64]⟩ : Shape).Idx → EReal) (w : (⟨4, ![192, 192, 3, 3]⟩ : Shape).Idx → EReal)
  (β : (⟨1, ![192]⟩ : Shape).Idx → EReal)
  (X : (⟨3, ![1, 4096, 192]⟩ : Shape).Idx → EReal) (W : (⟨4, ![3, 3, 192, 192]⟩ : Shape).Idx → EReal)
  (B : (⟨2, ![192, 1]⟩ : Shape).Idx → EReal)

/-- A padded pixel of image `b`, from the block holding that image's pixels row after row. -/
theorem pixel_eq_padded (hX : ∀ (h v : Fin 64) (ci : Fin 192), X (ix3 0 ⟨h.val * 64 + v.val, by omega⟩ ci) = x (ix4 b ci h v))
    (hp wp : ℕ) (ci : Fin 192) : pixel X hp wp ci = padded x b ci hp wp := by
  unfold padded
  by_cases h : (1 ≤ hp ∧ hp ≤ 64) ∧ (1 ≤ wp ∧ wp ≤ 64)
  · rw [dif_pos h, ← hX]
    exact pixel_of X hp wp ci _ h rfl
  · rw [dif_neg h, pixel_of_not X hp wp ci h]

/-- One tap at pixel `(h, v)` of image `b`. -/
theorem blockTap_eq (hX : ∀ (h v : Fin 64) (ci : Fin 192), X (ix3 0 ⟨h.val * 64 + v.val, by omega⟩ ci) = x (ix4 b ci h v))
    (hW : ∀ (kh kw : Fin 3) (o ci : Fin 192), W (ix4 kh kw o ci) = w (ix4 o ci kh kw))
    (o : Fin 192) (h v : Fin 64) (kh kw : Fin 3) :
    blockTap X W o ⟨h.val * 64 + v.val, by omega⟩ kh kw = tap x w b o h v kh kw := by
  unfold blockTap tap
  refine Finset.sum_congr rfl fun ci _ => ?_
  rw [hW, pixel_eq_padded b x X hX]
  congr 2
  · show (h.val * 64 + v.val) / 64 + kh.val = _
    omega
  · show (h.val * 64 + v.val) % 64 + kw.val = _
    omega

/-- A hidden feature at pixel `(h, v)` of image `b`. -/
theorem blockHidden_eq (hX : ∀ (h v : Fin 64) (ci : Fin 192), X (ix3 0 ⟨h.val * 64 + v.val, by omega⟩ ci) = x (ix4 b ci h v))
    (hW : ∀ (kh kw : Fin 3) (o ci : Fin 192), W (ix4 kh kw o ci) = w (ix4 o ci kh kw))
    (hB : ∀ o : Fin 192, B (ix2 o 0) = β (ix1 o)) (o : Fin 192) (h v : Fin 64) :
    blockHidden X W B o ⟨h.val * 64 + v.val, by omega⟩ = hidden x w β b o h v := by
  unfold blockHidden hidden
  rw [hB]
  simp only [blockTap_eq b x w X W hX hW]

/-- A result channel at pixel `(h, v)` of image `b`. -/
theorem blockHead_eq (n : ℕ) (u : (⟨4, ![n, 192, 1, 1]⟩ : Shape).Idx → EReal) (γ : (⟨1, ![n]⟩ : Shape).Idx → EReal)
    (U : (⟨2, ![n, 192]⟩ : Shape).Idx → EReal) (C : (⟨2, ![n, 1]⟩ : Shape).Idx → EReal)
    (hX : ∀ (h v : Fin 64) (ci : Fin 192), X (ix3 0 ⟨h.val * 64 + v.val, by omega⟩ ci) = x (ix4 b ci h v))
    (hW : ∀ (kh kw : Fin 3) (o ci : Fin 192), W (ix4 kh kw o ci) = w (ix4 o ci kh kw))
    (hB : ∀ o : Fin 192, B (ix2 o 0) = β (ix1 o)) (hU : ∀ (j : Fin n) (o : Fin 192), U (ix2 j o) = u (ix4 j o 0 0))
    (hC : ∀ j : Fin n, C (ix2 j 0) = γ (ix1 j)) (j : Fin n) (h v : Fin 64) :
    blockHead n X W B U C j ⟨h.val * 64 + v.val, by omega⟩ = head n x w β u γ b j h v := by
  unfold blockHead head
  rw [hC]
  simp only [hU, blockHidden_eq b x w β X W B hX hW hB]

end Cert.Rpn

end
-- ==== Proof.Operands.lean ====
/- The blocks the grid points read, in terms of the arguments: point `t` reads image `t` of the features with its channels
   last and its pixels row after row, and the same weights and biases at every point. -/
module

public import proofs.«01_k».proof.Proof.Agree
public import proofs.«01_k».proof.Proof.Gen.KernelIdeal.Value
public import Idealize.ShloMosaic.Lib.StableHlo.Run
public import Idealize.ShloMosaic.Lib.StableHlo.RunRead
public import Idealize.ShloMosaic.Lib.Pipeline.ValueKit

@[expose] public section

noncomputable section

namespace Cert.Rpn

open Idealize.ShloMosaic hiding ix1 ix2 ix3 ix4 ix5
open Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-! ## The arrays the kernel starts from, at an index -/

/-- The features with channels last and the pixels of an image row after row. -/
theorem features_at (b : Fin 8) (h v : Fin 64) (ci : Fin 192) :
    V m c main_v1 (ix3 b ⟨h.val * 64 + v.val, by omega⟩ ci) = m (c, main_arg0) (ix4 b ci h v) := by
  unfold V hostOps0
  after_results
  refine (shapeCast_apply _ _ _ (ix4 b h v ci) ?_).trans ?_
  · refine (Shape.rowMajor_val_four _).trans (Eq.trans ?_ (Shape.rowMajor_val_three _).symm)
    show ((b.val * 64 + h.val) * 64 + v.val) * 192 + ci.val = (b.val * 4096 + (h.val * 64 + v.val)) * 192 + ci.val
    omega
  · exact transpose_apply _ _ _ _ (ix4 b ci h v) (fun a => by fin_cases a <;> rfl)

/-- The convolution's weights with the two tap axes first. -/
theorem weights_at (kh kw : Fin 3) (o ci : Fin 192) :
    V m c main_v2 (ix4 kh kw o ci) = m (c, main_arg1) (ix4 o ci kh kw) := by
  unfold V hostOps0
  after_results
  exact transpose_apply _ _ _ _ (ix4 o ci kh kw) (fun a => by fin_cases a <;> rfl)

/-- The convolution's bias as a column. -/
theorem bias_at (o : Fin 192) : V m c main_v3 (ix2 o 0) = m (c, main_arg2) (ix1 o) := by
  unfold V hostOps0
  after_results
  refine shapeCast_apply _ _ _ (ix1 o) ?_
  refine (Shape.rowMajor_val_one _).trans (Eq.trans ?_ (Shape.rowMajor_val_two _).symm)
  show o.val = o.val * 1 + 0
  omega

/-- The nine-channel weights as a matrix. -/
theorem cls_weights_at (j : Fin 9) (o : Fin 192) : V m c main_v4 (ix2 j o) = m (c, main_arg3) (ix4 j o 0 0) := by
  unfold V hostOps0
  after_results
  refine shapeCast_apply _ _ _ (ix4 j o 0 0) ?_
  refine (Shape.rowMajor_val_four _).trans (Eq.trans ?_ (Shape.rowMajor_val_two _).symm)
  show ((j.val * 192 + o.val) * 1 + 0) * 1 + 0 = j.val * 192 + o.val
  omega

/-- The thirty-six-channel weights as a matrix. -/
theorem bbox_weights_at (j : Fin 36) (o : Fin 192) : V m c main_v5 (ix2 j o) = m (c, main_arg5) (ix4 j o 0 0) := by
  unfold V hostOps0
  after_results
  refine shapeCast_apply _ _ _ (ix4 j o 0 0) ?_
  refine (Shape.rowMajor_val_four _).trans (Eq.trans ?_ (Shape.rowMajor_val_two _).symm)
  show ((j.val * 192 + o.val) * 1 + 0) * 1 + 0 = j.val * 192 + o.val
  omega

/-- The nine-channel bias as a column. -/
theorem cls_bias_at (j : Fin 9) : V m c main_v6 (ix2 j 0) = m (c, main_arg4) (ix1 j) := by
  unfold V hostOps0
  after_results
  refine shapeCast_apply _ _ _ (ix1 j) ?_
  refine (Shape.rowMajor_val_one _).trans (Eq.trans ?_ (Shape.rowMajor_val_two _).symm)
  show j.val = j.val * 1 + 0
  omega

/-- The thirty-six-channel bias as a column. -/
theorem bbox_bias_at (j : Fin 36) : V m c main_v7 (ix2 j 0) = m (c, main_arg6) (ix1 j) := by
  unfold V hostOps0
  after_results
  refine shapeCast_apply _ _ _ (ix1 j) ?_
  refine (Shape.rowMajor_val_one _).trans (Eq.trans ?_ (Shape.rowMajor_val_two _).symm)
  show j.val = j.val * 1 + 0
  omega

/-! ## The blocks -/

/-- Where each input's block lies: the features' block moves with the point, the others stay. -/
theorem index_in : ∀ t : Fin cfg0.N, win0_0.index t = ![t.val, 0, 0] ∧ win0_1.index t = ![0, 0, 0, 0]
    ∧ win0_2.index t = ![0, 0] ∧ win0_3.index t = ![0, 0] ∧ win0_4.index t = ![0, 0] ∧ win0_5.index t = ![0, 0]
    ∧ win0_6.index t = ![0, 0] :=
  (by decide +kernel : ∀ t : Fin grid0.N, _)

/-- Point `t` reads image `t`. -/
theorem features_block (t : Fin cfg0.N) (b : Fin 8) (hb : t.val = b.val) (q : Fin 4096) (ci : Fin 192) :
    iblk m c 0 t (ix3 0 q ci) = V m c main_v1 (ix3 b q ci) := by
  obtain ⟨e, -⟩ := index_in t
  blk_ext [iblk, e]

/-- Every point reads all the convolution's weights. -/
theorem weights_block (t : Fin cfg0.N) : iblk m c 1 t = V m c main_v2 := by
  obtain ⟨-, e, -⟩ := index_in t
  blk_ext! [iblk, e]

/-- Every point reads all the convolution's bias. -/
theorem bias_block (t : Fin cfg0.N) : iblk m c 2 t = V m c main_v3 := by
  obtain ⟨-, -, e, -⟩ := index_in t
  blk_ext! [iblk, e]

/-- Every point reads all the nine-channel weights. -/
theorem cls_weights_block (t : Fin cfg0.N) : iblk m c 3 t = V m c main_v4 := by
  obtain ⟨-, -, -, e, -⟩ := index_in t
  blk_ext! [iblk, e]

/-- Every point reads all the thirty-six-channel weights. -/
theorem bbox_weights_block (t : Fin cfg0.N) : iblk m c 4 t = V m c main_v5 := by
  obtain ⟨-, -, -, -, e, -⟩ := index_in t
  blk_ext! [iblk, e]

/-- Every point reads all the nine-channel bias. -/
theorem cls_bias_block (t : Fin cfg0.N) : iblk m c 5 t = V m c main_v6 := by
  obtain ⟨-, -, -, -, -, e, -⟩ := index_in t
  blk_ext! [iblk, e]

/-- Every point reads all the thirty-six-channel bias. -/
theorem bbox_bias_block (t : Fin cfg0.N) : iblk m c 6 t = V m c main_v7 := by
  obtain ⟨-, -, -, -, -, -, e⟩ := index_in t
  blk_ext! [iblk, e]

/-- The nine-channel result over point `t`'s blocks is image `t`'s over the arguments. -/
theorem cls_blocks (t : Fin cfg0.N) (b : Fin 8) (hb : t.val = b.val) (j : Fin 9) (h v : Fin 64) :
    blockHead 9 (iblk m c 0 t) (iblk m c 1 t) (iblk m c 2 t) (iblk m c 3 t) (iblk m c 5 t) j ⟨h.val * 64 + v.val, by omega⟩
      = head 9 (m (c, main_arg0)) (m (c, main_arg1)) (m (c, main_arg2)) (m (c, main_arg3)) (m (c, main_arg4)) b j h v :=
  blockHead_eq b _ _ _ _ _ _ 9 _ _ _ _
    (fun h v ci => (features_block m c t b hb _ ci).trans (features_at m c b h v ci))
    (fun kh kw o ci => (congrFun (weights_block m c t) _).trans (weights_at m c kh kw o ci))
    (fun o => (congrFun (bias_block m c t) _).trans (bias_at m c o))
    (fun j o => (congrFun (cls_weights_block m c t) _).trans (cls_weights_at m c j o))
    (fun j => (congrFun (cls_bias_block m c t) _).trans (cls_bias_at m c j)) j h v

/-- The thirty-six-channel result over point `t`'s blocks is image `t`'s over the arguments. -/
theorem bbox_blocks (t : Fin cfg0.N) (b : Fin 8) (hb : t.val = b.val) (j : Fin 36) (h v : Fin 64) :
    blockHead 36 (iblk m c 0 t) (iblk m c 1 t) (iblk m c 2 t) (iblk m c 4 t) (iblk m c 6 t) j ⟨h.val * 64 + v.val, by omega⟩
      = head 36 (m (c, main_arg0)) (m (c, main_arg1)) (m (c, main_arg2)) (m (c, main_arg5)) (m (c, main_arg6)) b j h v :=
  blockHead_eq b _ _ _ _ _ _ 36 _ _ _ _
    (fun h v ci => (features_block m c t b hb _ ci).trans (features_at m c b h v ci))
    (fun kh kw o ci => (congrFun (weights_block m c t) _).trans (weights_at m c kh kw o ci))
    (fun o => (congrFun (bias_block m c t) _).trans (bias_at m c o))
    (fun j o => (congrFun (bbox_weights_block m c t) _).trans (bbox_weights_at m c j o))
    (fun j => (congrFun (bbox_bias_block m c t) _).trans (bbox_bias_at m c j)) j h v

end Cert.Rpn

end
-- ==== Proof.Points.lean ====
/- What every grid point leaves, by induction on the point: the scratch image is the padded image of the point's own block,
   the scratch wall is the wall of the weights, and so the two output blocks are the two heads over the point's blocks. -/
module

public import proofs.«01_k».proof.Proof.Operands

@[expose] public section

noncomputable section

namespace Cert.Rpn

open Idealize.ShloMosaic hiding ix1 ix2 ix3 ix4 ix5
open Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The point before `t`. -/
abbrev before (t : Fin cfg0.N) : Fin cfg0.N := ⟨t.val - 1, Nat.lt_of_le_of_lt (Nat.sub_le _ _) t.isLt⟩

/-- The weights' block is the same at every point. -/
theorem weights_same (t t' : Fin cfg0.N) : iblk m c 1 t = iblk m c 1 t' :=
  (weights_block m c t).trans (weights_block m c t').symm

/-- The two scratch arrays after point `n`: the padded image of that point's block and the wall of the weights. -/
theorem scratch_after (n : ℕ) : ∀ h : n < cfg0.N,
    (outsAt0 m c n h).2.2.1 = xpad (iblk m c 0 ⟨n, h⟩) ∧ (outsAt0 m c n h).2.2.2 = wall (iblk m c 1 ⟨n, h⟩) := by
  induction n with
  | zero =>
    intro h
    have e := outsAt0_A m c ⟨0, h⟩ rfl
    dsimp only at e
    rw [e]
    dsimp only
    exact ⟨image_first .., wall_first ..⟩
  | succ n ih =>
    intro h
    have h0 : ¬(⟨n + 1, h⟩ : Fin cfg0.N).val % 8 = 0 := by
      have hN : n + 1 < 8 := lt_of_lt_of_eq h N_0
      show ¬(n + 1) % 8 = 0
      omega
    obtain ⟨hx, hw⟩ := ih (Nat.lt_of_succ_lt h)
    have hx' : (outsAt0 m c (n + 1 - 1) (Nat.lt_of_succ_lt h)).2.2.1 = xpad (iblk m c 0 ⟨n, Nat.lt_of_succ_lt h⟩) := hx
    have e := outsAt0_B m c ⟨n + 1, h⟩ h0
    dsimp only at e
    rw [e]
    refine ⟨?_, hw.trans (congrArg wall (weights_same m c _ _))⟩
    dsimp only
    rw [hx']
    exact image_later ..

/-- The nine-channel block point `t` leaves. -/
theorem cls_after (t : Fin cfg0.N) (j : Fin 9) (r v : Fin 64) :
    (outsAt0 m c t.val t.isLt).1 (ix4 0 j r v)
      = blockHead 9 (iblk m c 0 t) (iblk m c 1 t) (iblk m c 2 t) (iblk m c 3 t) (iblk m c 5 t) j ⟨r.val * 64 + v.val, by omega⟩ := by
  by_cases h0 : t.val % 8 = 0
  · rw [outsAt0_A m c t h0]
    dsimp only
    exact cls_first ..
  · obtain ⟨hx, hw⟩ := scratch_after m c (t.val - 1) (before t).isLt
    rw [outsAt0_B m c t h0]
    dsimp only
    rw [hx, hw, weights_same m c ⟨t.val - 1, (before t).isLt⟩ t]
    exact cls_later ..

/-- The thirty-six-channel block point `t` leaves. -/
theorem bbox_after (t : Fin cfg0.N) (j : Fin 36) (r v : Fin 64) :
    (outsAt0 m c t.val t.isLt).2.1 (ix4 0 j r v)
      = blockHead 36 (iblk m c 0 t) (iblk m c 1 t) (iblk m c 2 t) (iblk m c 4 t) (iblk m c 6 t) j ⟨r.val * 64 + v.val, by omega⟩ := by
  by_cases h0 : t.val % 8 = 0
  · rw [outsAt0_A m c t h0]
    dsimp only
    exact bbox_first ..
  · obtain ⟨hx, hw⟩ := scratch_after m c (t.val - 1) (before t).isLt
    rw [outsAt0_B m c t h0]
    dsimp only
    rw [hx, hw, weights_same m c ⟨t.val - 1, (before t).isLt⟩ t]
    exact bbox_later ..

end Cert.Rpn

end
-- ==== Proof.Arrays.lean ====
/- What the kernel's two result arrays hold after the run: at image `b`, channel `j`, pixel `(h, v)` the two heads over the
   arguments. -/
module

public import proofs.«01_k».proof.Proof.Points

@[expose] public section

noncomputable section

namespace Cert.Rpn

open Idealize.ShloMosaic hiding ix1 ix2 ix3 ix4 ix5
open Idealize.ShloMosaic.TcCoe Idealize.SL.Sem Idealize.ShloMosaic.ValueIdx
open Cert.KernelIdeal Cert.KernelIdeal.Gen

/-- A head as an array of 8 images. -/
def headArray (n : ℕ) (x : (⟨4, ![8, 192, 64, 64]⟩ : Shape).Idx → EReal) (w : (⟨4, ![192, 192, 3, 3]⟩ : Shape).Idx → EReal)
    (β : (⟨1, ![192]⟩ : Shape).Idx → EReal) (u : (⟨4, ![n, 192, 1, 1]⟩ : Shape).Idx → EReal)
    (γ : (⟨1, ![n]⟩ : Shape).Idx → EReal) : (⟨4, ![8, n, 64, 64]⟩ : Shape).Idx → EReal :=
  fun i => head n x w β u γ (i 0) (i 1) (i 2) (i 3)

variable (m : (ℓ : Loc nD τ sig) → Buf (Elt Ideal) ℓ) (c : Dev nD)

/-- Where each result's block lies: point `t` writes image `t`. -/
theorem index_out : ∀ t : Fin cfg0.N, win0_7.index t = ![t.val, 0, 0, 0] ∧ win0_8.index t = ![t.val, 0, 0, 0] :=
  (by decide +kernel : ∀ t : Fin grid0.N, _)

/-- The first result's block at point `t` lies in image `t`. -/
theorem cls_place (t : Fin cfg0.N) (y : S1x9x64x64.Idx) :
    (win0_7.blk t).view.emb y = ix4 (⟨t.val, lt_of_lt_of_eq t.isLt N_0⟩ : Fin 8) (y 1) (y 2) (y 3) := by
  obtain ⟨e, -⟩ := index_out t
  blk_ext [e]

/-- The second result's block at point `t` lies in image `t`. -/
theorem bbox_place (t : Fin cfg0.N) (y : S1x36x64x64.Idx) :
    (win0_8.blk t).view.emb y = ix4 (⟨t.val, lt_of_lt_of_eq t.isLt N_0⟩ : Fin 8) (y 1) (y 2) (y 3) := by
  obtain ⟨-, e⟩ := index_out t
  blk_ext [e]

/-- An index into a block of one image has zero on its first axis. -/
theorem one_image {n : ℕ} (y : (⟨4, ![1, n, 64, 64]⟩ : Shape).Idx) : y = ix4 0 (y 1) (y 2) (y 3) :=
  (ValueIdx.eq_ix4 y).trans (congrArg (fun a => ix4 a (y 1) (y 2) (y 3)) (Subsingleton.elim (α := Fin 1) (y 0) 0))

/-- The first result is the nine-channel head over the arguments. -/
theorem cls_array : (dats m 0 c).arrAt 7 cfg0.N
    = headArray 9 (m (c, main_arg0)) (m (c, main_arg1)) (m (c, main_arg2)) (m (c, main_arg3)) (m (c, main_arg4)) := by
  refine (dats m 0 c).arrAt_eq_of_covers 7 _ (by decide +kernel) fun t hf y => ?_
  blk_simp
  rw [after0_7, cls_place t y]
  refine (congrArg (outsAt0 m c t.val t.isLt).1 (one_image (n := 9) y)).trans ?_
  exact (cls_after m c t _ _ _).trans (cls_blocks m c t ⟨t.val, lt_of_lt_of_eq t.isLt N_0⟩ rfl _ _ _)

/-- The second result is the thirty-six-channel head over the arguments. -/
theorem bbox_array : (dats m 0 c).arrAt 8 cfg0.N
    = headArray 36 (m (c, main_arg0)) (m (c, main_arg1)) (m (c, main_arg2)) (m (c, main_arg5)) (m (c, main_arg6)) := by
  refine (dats m 0 c).arrAt_eq_of_covers 8 _ (by decide +kernel) fun t hf y => ?_
  blk_simp
  rw [after0_8, bbox_place t y]
  refine (congrArg (outsAt0 m c t.val t.isLt).2.1 (one_image (n := 36) y)).trans ?_
  exact (bbox_after m c t _ _ _).trans (bbox_blocks m c t ⟨t.val, lt_of_lt_of_eq t.isLt N_0⟩ rfl _ _ _)

end Cert.Rpn

end
-- ==== Proof.Reference.lean ====
/- What the reference computes, at an index: its padded features are the features with a ring of zeros, each of its nine
   shifted products is one tap of the convolution, and its two results are the two heads over the arguments. -/
module

public import proofs.«01_k».proof.Proof.Arrays
public import proofs.«01_k».proof.Proof.Gen.ReferenceIdeal.Read

@[expose] public section

noncomputable section

namespace Cert.Rpn

open Idealize.ShloMosaic hiding ix1 ix2 ix3 ix4 ix5
open Idealize.ShloMosaic.TcCoe Idealize.SL.Sem Idealize.ShloMosaic.ValueIdx
open Cert.ReferenceIdeal Cert.ReferenceIdeal.Gen Cert.ReferenceIdeal.Read

/-- The reference's zero, an integer zero made a float, is the real zero. -/
theorem pad_value (i : S_.Idx) : val_main_call0_v0 (F := Ideal) i = 0 := by
  show (((0#32 : BitVec 32).toInt : ℝ) : EReal) = 0
  simp

/-- The reference's padded features. -/
theorem padded_at (x : (⟨S8x192x64x64, .f32⟩ : BufTy).Contents (Elt Ideal)) (b : Fin 8) (ci : Fin 192) (hp wp : Fin 66) :
    val_main_v0 (F := Ideal) x (ix4 b ci hp wp) = padded x b ci hp.val wp.val := by
  unfold val_main_v0 padded
  pointwise
  by_cases h : (1 ≤ hp.val ∧ hp.val ≤ 64) ∧ (1 ≤ wp.val ∧ wp.val ≤ 64)
  · rw [dif_pos h]
    exact dif_pos (show (1 ≤ hp.val ∧ hp.val - 1 < 64) ∧ (1 ≤ wp.val ∧ wp.val - 1 < 64) by omega)
  · rw [dif_neg h]
    exact (dif_neg (show ¬((1 ≤ hp.val ∧ hp.val - 1 < 64) ∧ (1 ≤ wp.val ∧ wp.val - 1 < 64)) by omega)).trans (pad_value _)

/-- Where tap `(kh, kw)` starts in the padded features, and where it lies in the weights. -/
abbrev corner (kh kw : Fin 3) : Fin 4 → ℕ := ![0, 0, kh.val, kw.val]

/-- One of the reference's shifted products is one tap of the convolution. -/
theorem shifted_product (x : (⟨S8x192x64x64, .f32⟩ : BufTy).Contents (Elt Ideal))
    (w : (⟨S192x192x3x3, .f32⟩ : BufTy).Contents (Elt Ideal)) (kh kw : Fin 3)
    (hw : S192x192x3x3.Slices (corner kh kw) S192x192x1x1) (hx : S8x192x66x66.Slices (corner kh kw) S8x192x64x64)
    (b : Fin 8) (o : Fin 192) (h v : Fin 64) :
    transpose S8x192x64x64 [1, 0, 2, 3]
      (Host.dotGeneral (F := Ideal) (φ₁ := .f32) (φ₂ := .f32) dot_S192x192_S8x192x64x64_S192x8x64x64_1_1_0_023_n_n none
        (shapeCast S192x192 (extractStridedSlice S192x192x1x1 (corner kh kw) w hw) shapeCasts_S192x192x1x1_S192x192)
        (extractStridedSlice S8x192x64x64 (corner kh kw) (val_main_v0 (F := Ideal) x) hx))
      transposes_S192x8x64x64_S8x192x64x64_1_0_2_3 (ix4 b o h v) = tap x w b o h v kh kw := by
  generalize hP : val_main_v0 (F := Ideal) x = P
  unfold tap
  pointwise
  refine Finset.sum_congr rfl fun ci _ => congrArg₂ (· * ·) rfl ?_
  subst hP
  refine (padded_at x b ci ⟨kh.val + h.val, by omega⟩ ⟨kw.val + v.val, by omega⟩).trans ?_
  show padded x b ci (kh.val + h.val) (kw.val + v.val) = _
  rw [Nat.add_comm kh.val, Nat.add_comm kw.val]

/-- The reference's nine products added up are the convolution. -/
theorem conv_at (x : (⟨S8x192x64x64, .f32⟩ : BufTy).Contents (Elt Ideal))
    (w : (⟨S192x192x3x3, .f32⟩ : BufTy).Contents (Elt Ideal)) (b : Fin 8) (o : Fin 192) (h v : Fin 64) :
    val_main_v55 (F := Ideal) x w (ix4 b o h v) = ∑ kh : Fin 3, ∑ kw : Fin 3, tap x w b o h v kh kw := by
  have hz : val_main_v6 (F := Ideal) (ix4 b o h v) = 0 := (val_main_v6_apply _).trans Ideal.ofBits_zero_f32
  have t (kh kw : Fin 3) := fun hw hx => shifted_product x w kh kw hw hx b o h v
  rw [val_main_v55_apply, val_main_v49_apply, val_main_v43_apply, val_main_v37_apply, val_main_v31_apply,
    val_main_v25_apply, val_main_v19_apply, val_main_v13_apply, val_main_v7_apply, hz,
    show val_main_v5 (F := Ideal) x w (ix4 b o h v) = _ from t 0 0 _ _,
    show val_main_v12 (F := Ideal) x w (ix4 b o h v) = _ from t 0 1 _ _,
    show val_main_v18 (F := Ideal) x w (ix4 b o h v) = _ from t 0 2 _ _,
    show val_main_v24 (F := Ideal) x w (ix4 b o h v) = _ from t 1 0 _ _,
    show val_main_v30 (F := Ideal) x w (ix4 b o h v) = _ from t 1 1 _ _,
    show val_main_v36 (F := Ideal) x w (ix4 b o h v) = _ from t 1 2 _ _,
    show val_main_v42 (F := Ideal) x w (ix4 b o h v) = _ from t 2 0 _ _,
    show val_main_v48 (F := Ideal) x w (ix4 b o h v) = _ from t 2 1 _ _,
    show val_main_v54 (F := Ideal) x w (ix4 b o h v) = _ from t 2 2 _ _]
  simp only [Fin.sum_univ_three, Ideal.addf_def, zero_add, add_assoc]

/-- The reference's hidden features. -/
theorem hidden_at (x : (⟨S8x192x64x64, .f32⟩ : BufTy).Contents (Elt Ideal))
    (w : (⟨S192x192x3x3, .f32⟩ : BufTy).Contents (Elt Ideal)) (β : (⟨S192, .f32⟩ : BufTy).Contents (Elt Ideal))
    (b : Fin 8) (o : Fin 192) (h v : Fin 64) :
    val_main_v59 (F := Ideal) x w β (ix4 b o h v) = hidden x w β b o h v := by
  have hz : val_main_call1_v0 (F := Ideal) (ix4 b o h v) = 0 := (val_main_call1_v0_apply _).trans Ideal.ofBits_zero_f32
  have hβ : val_main_v57 (F := Ideal) β (ix4 b o h v) = β (ix1 o) := by
    rw [val_main_v57_apply, val_main_v56_apply]
    exact congrArg β (ValueIdx.eq_ix1 _)
  rw [val_main_v59_apply, val_main_v58_apply, conv_at, hz, hβ]
  rfl

/-- The reference's first result is the nine-channel head over the arguments. -/
theorem ref_cls (x : (⟨S8x192x64x64, .f32⟩ : BufTy).Contents (Elt Ideal))
    (w : (⟨S192x192x3x3, .f32⟩ : BufTy).Contents (Elt Ideal)) (β : (⟨S192, .f32⟩ : BufTy).Contents (Elt Ideal))
    (u : (⟨S9x192x1x1, .f32⟩ : BufTy).Contents (Elt Ideal)) (γ : (⟨S9, .f32⟩ : BufTy).Contents (Elt Ideal)) :
    val_main_v65 (F := Ideal) x w β u γ = headArray 9 x w β u γ := by
  funext i
  unfold val_main_v65 val_main_v62 val_main_v61 val_main_v60 val_main_v64 val_main_v63 headArray head
  generalize hH : val_main_v59 (F := Ideal) x w β = H
  pointwise
  refine congrArg₂ (· + ·) (Finset.sum_congr rfl fun o _ => congrArg₂ (· * ·) rfl ?_) rfl
  subst hH
  exact hidden_at x w β (i 0) o (i 2) (i 3)

/-- The reference's second result is the thirty-six-channel head over the arguments. -/
theorem ref_bbox (x : (⟨S8x192x64x64, .f32⟩ : BufTy).Contents (Elt Ideal))
    (w : (⟨S192x192x3x3, .f32⟩ : BufTy).Contents (Elt Ideal)) (β : (⟨S192, .f32⟩ : BufTy).Contents (Elt Ideal))
    (u : (⟨S36x192x1x1, .f32⟩ : BufTy).Contents (Elt Ideal)) (γ : (⟨S36, .f32⟩ : BufTy).Contents (Elt Ideal)) :
    val_main_v71 (F := Ideal) x w β u γ = headArray 36 x w β u γ := by
  funext i
  unfold val_main_v71 val_main_v68 val_main_v67 val_main_v66 val_main_v70 val_main_v69 headArray head
  generalize hH : val_main_v59 (F := Ideal) x w β = H
  pointwise
  refine congrArg₂ (· + ·) (Finset.sum_congr rfl fun o _ => congrArg₂ (· * ·) rfl ?_) rfl
  subst hH
  exact hidden_at x w β (i 0) o (i 2) (i 3)

end Cert.Rpn

end
-- ==== Proof.Equation.lean ====
/- The equation: from any memory the kernel's run ends with both results at the two heads over its arguments, and so does the
   reference's; from memories that agree on the arguments the results are equal. -/
module

public import proofs.«01_k».proof.Proof.Reference
public import proofs.«01_k».proof.Defs
public import Idealize.ShloMosaic.Lib.Quiescent

@[expose] public section

noncomputable section

namespace Cert.Rpn

open Idealize.ShloMosaic Idealize.ShloMosaic.TcCoe Idealize.SL.Sem

/-- The nine-channel head over the kernel's arguments on one device. -/
def clsOf (m : (ℓ : Loc Cert.KernelIdeal.nD Cert.KernelIdeal.τ Cert.KernelIdeal.sig) → Buf (Elt Ideal) ℓ)
    (c : Dev Cert.KernelIdeal.nD) : (⟨4, ![8, 9, 64, 64]⟩ : Shape).Idx → EReal :=
  headArray 9 (m (c, Cert.KernelIdeal.main_arg0)) (m (c, Cert.KernelIdeal.main_arg1)) (m (c, Cert.KernelIdeal.main_arg2))
    (m (c, Cert.KernelIdeal.main_arg3)) (m (c, Cert.KernelIdeal.main_arg4))

/-- The thirty-six-channel head over the kernel's arguments on one device. -/
def bboxOf (m : (ℓ : Loc Cert.KernelIdeal.nD Cert.KernelIdeal.τ Cert.KernelIdeal.sig) → Buf (Elt Ideal) ℓ)
    (c : Dev Cert.KernelIdeal.nD) : (⟨4, ![8, 36, 64, 64]⟩ : Shape).Idx → EReal :=
  headArray 36 (m (c, Cert.KernelIdeal.main_arg0)) (m (c, Cert.KernelIdeal.main_arg1)) (m (c, Cert.KernelIdeal.main_arg2))
    (m (c, Cert.KernelIdeal.main_arg5)) (m (c, Cert.KernelIdeal.main_arg6))

/-- Kernel and reference, from memories that agree on the seven arguments, both run and end with equal results. -/
theorem algebraic : Cert.algebraic_KernelIdeal_ReferenceIdeal := by
  intro m ρ m' ρ' _ hagree
  refine ⟨clsOf m, bboxOf m, ?_, ?_⟩
  · refine (θ_run Cert.KernelIdeal.defs _ _).mono (fun _ h c => ?_) (Cert.KernelIdeal.Value.run_blocks (F := Ideal) m ρ)
    obtain ⟨h0, h1, hargs⟩ := h c
    exact ⟨h0.trans (cls_array m c), h1.trans (bbox_array m c), hargs⟩
  · refine (θ_run Cert.ReferenceIdeal.defs _ _).mono (fun _ h c => ?_) (Cert.ReferenceIdeal.Value.run (F := Ideal) m' ρ')
    obtain ⟨h0, h1, hargs⟩ := h c
    obtain ⟨a0, a1, a2, a3, a4, a5, a6⟩ := hagree c
    refine ⟨h0.trans ?_, h1.trans ?_, hargs⟩
    · rw [Cert.ReferenceIdeal.Read.val_main_v65_eq, ref_cls, a0, a1, a2, a3, a4]
      rfl
    · rw [Cert.ReferenceIdeal.Read.val_main_v71_eq, ref_bbox, a0, a1, a2, a5, a6]
      rfl

/-- The reference runs, keeps its arguments, and holds no semaphore. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

end Cert.Rpn

end
-- ==== Proof.lean ====
/- The claims about the kernel and its reference, put together: all three programs run and keep their arguments, the
   idealized kernel is the kernel's own text, and over the extended reals both results of the kernel are the reference's. -/
module

public import proofs.«01_k».proof.Defs
public import proofs.«01_k».proof.Proof.Gen.Kernel.Frame
public import proofs.«01_k».proof.Proof.Equation

@[expose] public section

noncomputable section

namespace Cert.Proof

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Rpn.reference_frame,
    trivial, Cert.Rpn.algebraic⟩

end Cert.Proof

end
